-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_wb_finite [hPre_wb_finite : Cert.Pre_wb_finite.Facts] (m : (ℓ : Loc Cert.KernelIdeal.nD Cert.KernelIdeal.τ Cert.KernelIdeal.sig) → Buf (Elt Ideal) ℓ) : Prop :=
  ∀ c : Dev Cert.KernelIdeal.nD,
    (Cert.Pre_wb_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_wb_finite [hPre_wb_finite : Cert.Pre_wb_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_wb_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_wb_finite [hKernelIdeal : Cert.KernelIdeal.Facts] [hPre_wb_finite : Cert.Pre_wb_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_wb_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_wb_finite [hReferenceIdeal : Cert.ReferenceIdeal.Facts] [hPre_wb_finite : Cert.Pre_wb_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_wb_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_wb_finite [hKernelIdeal : Cert.KernelIdeal.Facts] [hReferenceIdeal : Cert.ReferenceIdeal.Facts] [hPre_wb_finite : Cert.Pre_wb_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_wb_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_wb_finite : Cert.Pre_wb_finite.Facts),
    quiescent_Kernel (hKernel := hKernel)
    ∧ quiescent_KernelIdeal (hKernelIdeal := hKernelIdeal)
    ∧ quiescent_KernelIdeal_pre_wb_finite (hKernelIdeal := hKernelIdeal) (hPre_wb_finite := hPre_wb_finite)
    ∧ quiescent_ReferenceIdeal (hReferenceIdeal := hReferenceIdeal)
    ∧ quiescent_ReferenceIdeal_pre_wb_finite (hReferenceIdeal := hReferenceIdeal) (hPre_wb_finite := hPre_wb_finite)
    ∧ preserves_Kernel_KernelIdeal
    ∧ algebraic_KernelIdeal_ReferenceIdeal_pre_wb_finite (hKernelIdeal := hKernelIdeal) (hReferenceIdeal := hReferenceIdeal) (hPre_wb_finite := hPre_wb_finite)
-- ==== Pre_wb_finite.lean ====
abbrev S50000x1x4x128 : Shape := ⟨4, ![50000, 1, 4, 128]⟩
abbrev S50000x3 : Shape := ⟨2, ![50000, 3]⟩
abbrev S800000 : Shape := ⟨1, ![800000]⟩
abbrev S2x128x16 : Shape := ⟨3, ![2, 128, 16]⟩
abbrev S16 : Shape := ⟨1, ![16]⟩
abbrev S2x16x16 : Shape := ⟨3, ![2, 16, 16]⟩
abbrev S2x16 : Shape := ⟨2, ![2, 16]⟩
abbrev S2x16x1 : Shape := ⟨3, ![2, 16, 1]⟩
abbrev S1 : Shape := ⟨1, ![1]⟩
abbrev S_ : Shape := ⟨0, ![]⟩

class Facts : Prop where
  bcast_S_S2x16x16 : S_.BroadcastsInDim S2x16x16 (![] : Fin 0 → Fin S2x16x16.rank)

variable [Facts]

def fn {F : FTy → Type} [FloatOps F] (main_arg0 : FVec F S50000x1x4x128 .f32) (main_arg1 : FVec F S50000x3 .f32) (main_arg2 : IVec S800000 32) (main_arg3 : IVec S800000 32) (main_arg4 : FVec F S2x128x16 .f32) (main_arg5 : FVec F S16 .f32) (main_arg6 : FVec F S2x16x16 .f32) (main_arg7 : FVec F S2x16 .f32) (main_arg8 : FVec F S2x16x1 .f32) (main_arg9 : FVec F S1 .f32) : IVec S2x16x16 1 :=
  let main_v0 : FVec F S2x16x16 .f32 := Host.absf main_arg6
  let main_cst : FVec F S_ .f32 := constant S_ .f32 0x7F800000#32
  let main_v1 : FVec F S2x16x16 .f32 := broadcastInDim S2x16x16 ![] bcast_S_S2x16x16 main_cst
  let main_v2 : IVec S2x16x16 1 := cmpf .olt main_v0 main_v1
  main_v2
-- ==== Kernel.lean ====
abbrev S50000x1x4x128 : Shape := ⟨4, ![50000, 1, 4, 128]⟩
abbrev S50000x3 : Shape := ⟨2, ![50000, 3]⟩
abbrev S800000 : Shape := ⟨1, ![800000]⟩
abbrev S2x128x16 : Shape := ⟨3, ![2, 128, 16]⟩
abbrev S16 : Shape := ⟨1, ![16]⟩
abbrev S2x16x16 : Shape := ⟨3, ![2, 16, 16]⟩
abbrev S2x16 : Shape := ⟨2, ![2, 16]⟩
abbrev S2x16x1 : Shape := ⟨3, ![2, 16, 1]⟩
abbrev S1 : Shape := ⟨1, ![1]⟩
abbrev S4 : Shape := ⟨1, ![4]⟩
abbrev S_ : Shape := ⟨0, ![]⟩
abbrev S4x1 : Shape := ⟨2, ![4, 1]⟩
abbrev S4x128x16 : Shape := ⟨3, ![4, 128, 16]⟩
abbrev S4x16x50000x1 : Shape := ⟨4, ![4, 16, 50000, 1]⟩
abbrev S50000x1x4x16 : Shape := ⟨4, ![50000, 1, 4, 16]⟩
abbrev S1x1x4x1 : Shape := ⟨4, ![1, 1, 4, 1]⟩
abbrev S1x1x1x16 : Shape := ⟨4, ![1, 1, 1, 16]⟩
abbrev S1x1x4x16 : Shape := ⟨4, ![1, 1, 4, 16]⟩
abbrev S800000x1 : Shape := ⟨2, ![800000, 1]⟩
abbrev S800000x3 : Shape := ⟨2, ![800000, 3]⟩
abbrev S800000x4 : Shape := ⟨2, ![800000, 4]⟩
abbrev S15 : Shape := ⟨1, ![15]⟩
abbrev S1x16 : Shape := ⟨2, ![1, 16]⟩
abbrev S800000x16 : Shape := ⟨2, ![800000, 16]⟩
abbrev S1x16x16 : Shape := ⟨3, ![1, 16, 16]⟩
abbrev S16x16 : Shape := ⟨2, ![16, 16]⟩
abbrev S800000x4x1 : Shape := ⟨3, ![800000, 4, 1]⟩
abbrev S800000x1x16 : Shape := ⟨3, ![800000, 1, 16]⟩
abbrev S800000x4x16 : Shape := ⟨3, ![800000, 4, 16]⟩
abbrev S1x1x16 : Shape := ⟨3, ![1, 1, 16]⟩
abbrev S800000x2 : Shape := ⟨2, ![800000, 2]⟩
abbrev S50000x4x16 : Shape := ⟨3, ![50000, 4, 16]⟩
abbrev S50000x64 : Shape := ⟨2, ![50000, 64]⟩
abbrev S1x16x1 : Shape := ⟨3, ![1, 16, 1]⟩
abbrev S3x16 : Shape := ⟨2, ![3, 16]⟩
abbrev S48 : Shape := ⟨1, ![48]⟩
abbrev S64 : Shape := ⟨1, ![64]⟩
abbrev S1x64 : Shape := ⟨2, ![1, 64]⟩
abbrev S1x4 : Shape := ⟨2, ![1, 4]⟩
abbrev S50000x4 : Shape := ⟨2, ![50000, 4]⟩
abbrev S1000x64 : Shape := ⟨2, ![1000, 64]⟩
abbrev S1000x4 : Shape := ⟨2, ![1000, 4]⟩
abbrev S1000x4x16 : Shape := ⟨3, ![1000, 4, 16]⟩
abbrev S50000x1x4x1 : Shape := ⟨4, ![50000, 1, 4, 1]⟩

abbrev nBuf : Space → Nat
  | .hbm => 191
  | .vmem => 6
  | .smem => 0
  | _ => 0

abbrev hbmTy0_0 (i : Nat) : BufTy := match i % 128 with
  | 0 => ⟨S50000x1x4x128, .f32⟩
  | 1 => ⟨S50000x3, .f32⟩
  | 2 => ⟨S800000, .i32⟩
  | 3 => ⟨S800000, .i32⟩
  | 4 => ⟨S2x128x16, .f32⟩
  | 5 => ⟨S16, .f32⟩
  | 6 => ⟨S2x16x16, .f32⟩
  | 7 => ⟨S2x16, .f32⟩
  | 8 => ⟨S2x16x1, .f32⟩
  | 9 => ⟨S1, .f32⟩
  | 10 => ⟨S4, .i32⟩
  | 11 => ⟨S4, .f32⟩
  | 12 => ⟨S4, .f32⟩
  | 13 => ⟨S_, .i32⟩
  | 14 => ⟨S4, .i32⟩
  | 15 => ⟨S4, .i1⟩
  | 16 => ⟨S_, .i32⟩
  | 17 => ⟨S4, .i32⟩
  | 18 => ⟨S4, .i32⟩
  | 19 => ⟨S4, .i32⟩
  | 20 => ⟨S4x1, .i32⟩
  | 21 => ⟨S4x128x16, .f32⟩
  | 22 => ⟨S4x16x50000x1, .f32⟩
  | 23 => ⟨S50000x1x4x16, .f32⟩
  | 24 => ⟨S1x1x4x1, .f32⟩
  | 25 => ⟨S1x1x1x16, .f32⟩
  | 26 => ⟨S1x1x4x16, .f32⟩
  | 27 => ⟨S1x1x4x16, .f32⟩
  | 28 => ⟨S1x1x4x16, .f32⟩
  | 29 => ⟨S50000x1x4x16, .f32⟩
  | 30 => ⟨S50000x1x4x16, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x3, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x3, .f32⟩
  | 49 => ⟨S800000x3, .f32⟩
  | 50 => ⟨S800000x3, .f32⟩
  | 51 => ⟨S_, .f32⟩
  | 52 => ⟨S800000, .f32⟩
  | 53 => ⟨S_, .f32⟩
  | 54 => ⟨S800000, .f32⟩
  | 55 => ⟨S800000, .f32⟩
  | 56 => ⟨S800000, .f32⟩
  | 57 => ⟨S800000x1, .f32⟩
  | 58 => ⟨S800000x3, .f32⟩
  | 59 => ⟨S800000x3, .f32⟩
  | 60 => ⟨S_, .f32⟩
  | 61 => ⟨S800000, .f32⟩
  | 62 => ⟨S800000x1, .f32⟩
  | 63 => ⟨S800000x4, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S15, .f32⟩
  | 72 => ⟨S_, .f32⟩
  | 73 => ⟨S15, .f32⟩
  | 74 => ⟨S15, .f32⟩
  | 75 => ⟨S1, .f32⟩
  | 76 => ⟨S_, .f32⟩
  | 77 => ⟨S15, .f32⟩
  | 78 => ⟨S15, .f32⟩
  | 79 => ⟨S15, .f32⟩
  | 80 => ⟨S15, .f32⟩
  | 81 => ⟨S1, .f32⟩
  | 82 => ⟨S15, .f32⟩
  | 83 => ⟨S15, .f32⟩
  | 84 => ⟨S15, .f32⟩
  | 85 => ⟨S1, .f32⟩
  | 86 => ⟨S16, .f32⟩
  | 87 => ⟨S800000x1, .f32⟩
  | 88 => ⟨S1x16, .f32⟩
  | 89 => ⟨S800000x16, .f32⟩
  | 90 => ⟨S800000x16, .f32⟩
  | 91 => ⟨S800000x16, .f32⟩
  | 92 => ⟨S800000x16, .f32⟩
  | 93 => ⟨S_, .f32⟩
  | 94 => ⟨S800000x16, .f32⟩
  | 95 => ⟨S800000x16, .f32⟩
  | 96 => ⟨S800000x16, .f32⟩
  | 97 => ⟨S1x16x16, .f32⟩
  | 98 => ⟨S16x16, .f32⟩
  | 99 => ⟨S800000x16, .f32⟩
  | 100 => ⟨S800000x4x1, .f32⟩
  | 101 => ⟨S800000x1x16, .f32⟩
  | 102 => ⟨S800000x4x16, .f32⟩
  | 103 => ⟨S800000x4x16, .f32⟩
  | 104 => ⟨S800000x4x16, .f32⟩
  | 105 => ⟨S1x16, .f32⟩
  | 106 => ⟨S16, .f32⟩
  | 107 => ⟨S1x1x16, .f32⟩
  | 108 => ⟨S800000x4x16, .f32⟩
  | 109 => ⟨S800000x4x16, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S_, .i32⟩
  | 118 => ⟨S800000, .i32⟩
  | 119 => ⟨S800000, .i32⟩
  | 120 => ⟨S800000x1, .i32⟩
  | 121 => ⟨S800000x1, .i32⟩
  | 122 => ⟨S800000x2, .i32⟩
  | 123 => ⟨S800000x4x16, .f32⟩
  | 124 => ⟨S800000x4x16, .f32⟩
  | 125 => ⟨S_, .f32⟩
  | 126 => ⟨S50000x4x16, .f32⟩
  | 127 => ⟨S800000x1, .i32⟩
  | _ => ⟨S50000x1x4x128, .f32⟩

abbrev hbmTy0_1 (i : Nat) : BufTy := match i % 128 with
  | 0 => ⟨S50000x4x16, .f32⟩
  | 1 => ⟨S50000x1x4x16, .f32⟩
  | 2 => ⟨S50000x1x4x16, .f32⟩
  | 3 => ⟨S1x16x16, .f32⟩
  | 4 => ⟨S16x16, .f32⟩
  | 5 => ⟨S800000x16, .f32⟩
  | 6 => ⟨S800000x4x1, .f32⟩
  | 7 => ⟨S800000x1x16, .f32⟩
  | 8 => ⟨S800000x4x16, .f32⟩
  | 9 => ⟨S800000x4x16, .f32⟩
  | 10 => ⟨S800000x4x16, .f32⟩
  | 11 => ⟨S1x16, .f32⟩
  | 12 => ⟨S16, .f32⟩
  | 13 => ⟨S1x1x16, .f32⟩
  | 14 => ⟨S800000x4x16, .f32⟩
  | 15 => ⟨S800000x4x16, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S_, .i32⟩
  | 24 => ⟨S800000, .i32⟩
  | 25 => ⟨S800000, .i32⟩
  | 26 => ⟨S800000x1, .i32⟩
  | 27 => ⟨S800000x1, .i32⟩
  | 28 => ⟨S800000x2, .i32⟩
  | 29 => ⟨S800000x4x16, .f32⟩
  | 30 => ⟨S800000x4x16, .f32⟩
  | 31 => ⟨S_, .f32⟩
  | 32 => ⟨S50000x4x16, .f32⟩
  | 33 => ⟨S800000x1, .i32⟩
  | 34 => ⟨S50000x4x16, .f32⟩
  | 35 => ⟨S50000x1x4x16, .f32⟩
  | 36 => ⟨S50000x1x4x16, .f32⟩
  | 37 => ⟨S50000x64, .f32⟩
  | 38 => ⟨S1x16x1, .f32⟩
  | 39 => ⟨S16, .f32⟩
  | 40 => ⟨S1x16x1, .f32⟩
  | 41 => ⟨S16, .f32⟩
  | 42 => ⟨S1x16, .f32⟩
  | 43 => ⟨S3x16, .f32⟩
  | 44 => ⟨S48, .f32⟩
  | 45 => ⟨S64, .f32⟩
  | 46 => ⟨S1x64, .f32⟩
  | 47 => ⟨S1x16x1, .f32⟩
  | 48 => ⟨S16, .f32⟩
  | 49 => ⟨S1x16x1, .f32⟩
  | 50 => ⟨S16, .f32⟩
  | 51 => ⟨S1x16x1, .f32⟩
  | 52 => ⟨S16, .f32⟩
  | 53 => ⟨S1x16x1, .f32⟩
  | 54 => ⟨S16, .f32⟩
  | 55 => ⟨S64, .f32⟩
  | 56 => ⟨S1x64, .f32⟩
  | 57 => ⟨S1x4, .f32⟩
  | 58 => ⟨S_, .f32⟩
  | 59 => ⟨S1x4, .f32⟩
  | 60 => ⟨S1x4, .f32⟩
  | 61 => ⟨S50000x4, .f32⟩
  | 62 => ⟨S50000x1x4x1, .f32⟩
  | _ => ⟨S50000x1x4x128, .f32⟩

abbrev hbmTy (i : Nat) : BufTy := match i / 128 with
  | 0 => hbmTy0_0 i
  | 1 => hbmTy0_1 i
  | _ => ⟨S50000x1x4x128, .f32⟩

abbrev bufTy : (tb : Table) → Fin (tcTables nBuf tb) → BufTy
  | .hbm, ⟨i, _⟩ => hbmTy i
  | .local _ .vmem, ⟨0, _⟩ => ⟨S1000x64, .f32⟩
  | .local _ .vmem, ⟨1, _⟩ => ⟨S1000x64, .f32⟩
  | .local _ .vmem, ⟨2, _⟩ => ⟨S1x64, .f32⟩
  | .local _ .vmem, ⟨3, _⟩ => ⟨S1x4, .f32⟩
  | .local _ .vmem, ⟨4, _⟩ => ⟨S1000x4, .f32⟩
  | .local _ .vmem, ⟨5, _⟩ => ⟨S1000x4, .f32⟩
  | _, _ => ⟨S50000x1x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_cst : Ref sig .tc := ⟨.hbm, 11, rfl⟩
abbrev main_cst_0 : Ref sig .tc := ⟨.hbm, 12, rfl⟩
abbrev main_c_1 : Ref sig .tc := ⟨.hbm, 13, rfl⟩
abbrev main_v0 : Ref sig .tc := ⟨.hbm, 14, rfl⟩
abbrev main_v1 : Ref sig .tc := ⟨.hbm, 15, rfl⟩
abbrev main_c_2 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_cst_11 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_cst : Ref sig .tc := ⟨.hbm, 69, rfl⟩
abbrev main_call0_v3 : Ref sig .tc := ⟨.hbm, 70, rfl⟩
abbrev main_call0_v4 : Ref sig .tc := ⟨.hbm, 71, rfl⟩
abbrev main_call0_cst_0 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_cst_1 : Ref sig .tc := ⟨.hbm, 76, rfl⟩
abbrev main_call0_v8 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_v12 : Ref sig .tc := ⟨.hbm, 81, rfl⟩
abbrev main_call0_v13 : Ref sig .tc := ⟨.hbm, 82, rfl⟩
abbrev main_call0_v14 : Ref sig .tc := ⟨.hbm, 83, rfl⟩
abbrev main_call0_v15 : Ref sig .tc := ⟨.hbm, 84, rfl⟩
abbrev main_call0_v16 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_12 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_13 : Ref sig .tc := ⟨.hbm, 110, rfl⟩
abbrev main_v65 : Ref sig .tc := ⟨.hbm, 111, rfl⟩
abbrev main_v66 : Ref sig .tc := ⟨.hbm, 112, rfl⟩
abbrev main_c_14 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_c_15 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_16 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_17 : Ref sig .tc := ⟨.hbm, 144, rfl⟩
abbrev main_v95 : Ref sig .tc := ⟨.hbm, 145, rfl⟩
abbrev main_v96 : Ref sig .tc := ⟨.hbm, 146, rfl⟩
abbrev main_c_18 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_c_19 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_20 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S50000x1x4x128 : Shape := ⟨4, ![50000, 1, 4, 128]⟩
abbrev S50000x3 : Shape := ⟨2, ![50000, 3]⟩
abbrev S800000 : Shape := ⟨1, ![800000]⟩
abbrev S2x128x16 : Shape := ⟨3, ![2, 128, 16]⟩
abbrev S16 : Shape := ⟨1, ![16]⟩
abbrev S2x16x16 : Shape := ⟨3, ![2, 16, 16]⟩
abbrev S2x16 : Shape := ⟨2, ![2, 16]⟩
abbrev S2x16x1 : Shape := ⟨3, ![2, 16, 1]⟩
abbrev S1 : Shape := ⟨1, ![1]⟩
abbrev S4 : Shape := ⟨1, ![4]⟩
abbrev S_ : Shape := ⟨0, ![]⟩
abbrev S800000x1 : Shape := ⟨2, ![800000, 1]⟩
abbrev S800000x3 : Shape := ⟨2, ![800000, 3]⟩
abbrev S800000x4 : Shape := ⟨2, ![800000, 4]⟩
abbrev S15 : Shape := ⟨1, ![15]⟩
abbrev S1x16 : Shape := ⟨2, ![1, 16]⟩
abbrev S800000x16 : Shape := ⟨2, ![800000, 16]⟩
abbrev S800000x1x4x1 : Shape := ⟨4, ![800000, 1, 4, 1]⟩
abbrev S800000x1x1x16 : Shape := ⟨4, ![800000, 1, 1, 16]⟩
abbrev S800000x1x4x16 : Shape := ⟨4, ![800000, 1, 4, 16]⟩
abbrev S4x1 : Shape := ⟨2, ![4, 1]⟩
abbrev S4x128x16 : Shape := ⟨3, ![4, 128, 16]⟩
abbrev S4x16x50000x1 : Shape := ⟨4, ![4, 16, 50000, 1]⟩
abbrev S50000x1x4x16 : Shape := ⟨4, ![50000, 1, 4, 16]⟩
abbrev S1x1x4x1 : Shape := ⟨4, ![1, 1, 4, 1]⟩
abbrev S1x1x1x16 : Shape := ⟨4, ![1, 1, 1, 16]⟩
abbrev S1x1x4x16 : Shape := ⟨4, ![1, 1, 4, 16]⟩
abbrev S1x16x16 : Shape := ⟨3, ![1, 16, 16]⟩
abbrev S16x16 : Shape := ⟨2, ![16, 16]⟩
abbrev S4x16x1 : Shape := ⟨3, ![4, 16, 1]⟩
abbrev S4x1x50000x1 : Shape := ⟨4, ![4, 1, 50000, 1]⟩
abbrev S50000x1x4x1 : Shape := ⟨4, ![50000, 1, 4, 1]⟩
abbrev S1x1x1x1 : Shape := ⟨4, ![1, 1, 1, 1]⟩

abbrev nBuf : Space → Nat
  | .hbm => 166
  | .vmem => 0
  | .smem => 0
  | _ => 0

abbrev hbmTy0_0 (i : Nat) : BufTy := match i % 128 with
  | 0 => ⟨S50000x1x4x128, .f32⟩
  | 1 => ⟨S50000x3, .f32⟩
  | 2 => ⟨S800000, .i32⟩
  | 3 => ⟨S800000, .i32⟩
  | 4 => ⟨S2x128x16, .f32⟩
  | 5 => ⟨S16, .f32⟩
  | 6 => ⟨S2x16x16, .f32⟩
  | 7 => ⟨S2x16, .f32⟩
  | 8 => ⟨S2x16x1, .f32⟩
  | 9 => ⟨S1, .f32⟩
  | 10 => ⟨S4, .i32⟩
  | 11 => ⟨S4, .f32⟩
  | 12 => ⟨S4, .i32⟩
  | 13 => ⟨S4, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x3, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x3, .f32⟩
  | 32 => ⟨S800000x3, .f32⟩
  | 33 => ⟨S800000x3, .f32⟩
  | 34 => ⟨S_, .f32⟩
  | 35 => ⟨S800000, .f32⟩
  | 36 => ⟨S_, .f32⟩
  | 37 => ⟨S800000, .f32⟩
  | 38 => ⟨S800000, .f32⟩
  | 39 => ⟨S800000, .f32⟩
  | 40 => ⟨S800000x1, .f32⟩
  | 41 => ⟨S800000x3, .f32⟩
  | 42 => ⟨S800000x3, .f32⟩
  | 43 => ⟨S_, .f32⟩
  | 44 => ⟨S800000, .f32⟩
  | 45 => ⟨S800000x1, .f32⟩
  | 46 => ⟨S800000x4, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S15, .f32⟩
  | 55 => ⟨S_, .f32⟩
  | 56 => ⟨S15, .f32⟩
  | 57 => ⟨S15, .f32⟩
  | 58 => ⟨S1, .f32⟩
  | 59 => ⟨S_, .f32⟩
  | 60 => ⟨S15, .f32⟩
  | 61 => ⟨S15, .f32⟩
  | 62 => ⟨S15, .f32⟩
  | 63 => ⟨S15, .f32⟩
  | 64 => ⟨S1, .f32⟩
  | 65 => ⟨S15, .f32⟩
  | 66 => ⟨S15, .f32⟩
  | 67 => ⟨S15, .f32⟩
  | 68 => ⟨S1, .f32⟩
  | 69 => ⟨S16, .f32⟩
  | 70 => ⟨S800000x1, .f32⟩
  | 71 => ⟨S1x16, .f32⟩
  | 72 => ⟨S800000x16, .f32⟩
  | 73 => ⟨S800000x16, .f32⟩
  | 74 => ⟨S800000x16, .f32⟩
  | 75 => ⟨S800000x16, .f32⟩
  | 76 => ⟨S_, .f32⟩
  | 77 => ⟨S800000x16, .f32⟩
  | 78 => ⟨S800000x16, .f32⟩
  | 79 => ⟨S800000x16, .f32⟩
  | 80 => ⟨S800000x1x4x1, .f32⟩
  | 81 => ⟨S800000x1x1x16, .f32⟩
  | 82 => ⟨S800000x1x4x16, .f32⟩
  | 83 => ⟨S800000x1x4x16, .f32⟩
  | 84 => ⟨S800000x1x4x16, .f32⟩
  | 85 => ⟨S_, .i32⟩
  | 86 => ⟨S4, .i32⟩
  | 87 => ⟨S4, .i1⟩
  | 88 => ⟨S_, .i32⟩
  | 89 => ⟨S4, .i32⟩
  | 90 => ⟨S4, .i32⟩
  | 91 => ⟨S4, .i32⟩
  | 92 => ⟨S4x1, .i32⟩
  | 93 => ⟨S4x128x16, .f32⟩
  | 94 => ⟨S4x16x50000x1, .f32⟩
  | 95 => ⟨S50000x1x4x16, .f32⟩
  | 96 => ⟨S1x1x4x1, .f32⟩
  | 97 => ⟨S1x1x1x16, .f32⟩
  | 98 => ⟨S1x1x4x16, .f32⟩
  | 99 => ⟨S1x1x4x16, .f32⟩
  | 100 => ⟨S1x1x4x16, .f32⟩
  | 101 => ⟨S50000x1x4x16, .f32⟩
  | 102 => ⟨S50000x1x4x16, .f32⟩
  | 103 => ⟨S1x16x16, .f32⟩
  | 104 => ⟨S16x16, .f32⟩
  | 105 => ⟨S800000x1x4x16, .f32⟩
  | 106 => ⟨S1x16, .f32⟩
  | 107 => ⟨S16, .f32⟩
  | 108 => ⟨S1x1x1x16, .f32⟩
  | 109 => ⟨S800000x1x4x16, .f32⟩
  | 110 => ⟨S800000x1x4x16, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x1x4x16, .f32⟩
  | 120 => ⟨S800000x1x4x16, .f32⟩
  | 121 => ⟨S_, .f32⟩
  | 122 => ⟨S50000x1x4x16, .f32⟩
  | 123 => ⟨S800000x1, .i32⟩
  | 124 => ⟨S50000x1x4x16, .f32⟩
  | 125 => ⟨S50000x1x4x16, .f32⟩
  | 126 => ⟨S1x16x16, .f32⟩
  | 127 => ⟨S16x16, .f32⟩
  | _ => ⟨S50000x1x4x128, .f32⟩

abbrev hbmTy0_1 (i : Nat) : BufTy := match i % 128 with
  | 0 => ⟨S800000x1x4x16, .f32⟩
  | 1 => ⟨S1x16, .f32⟩
  | 2 => ⟨S16, .f32⟩
  | 3 => ⟨S1x1x1x16, .f32⟩
  | 4 => ⟨S800000x1x4x16, .f32⟩
  | 5 => ⟨S800000x1x4x16, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x1x4x16, .f32⟩
  | 15 => ⟨S800000x1x4x16, .f32⟩
  | 16 => ⟨S_, .f32⟩
  | 17 => ⟨S50000x1x4x16, .f32⟩
  | 18 => ⟨S800000x1, .i32⟩
  | 19 => ⟨S50000x1x4x16, .f32⟩
  | 20 => ⟨S50000x1x4x16, .f32⟩
  | 21 => ⟨S_, .i32⟩
  | 22 => ⟨S4, .i32⟩
  | 23 => ⟨S4, .i1⟩
  | 24 => ⟨S_, .i32⟩
  | 25 => ⟨S4, .i32⟩
  | 26 => ⟨S4, .i32⟩
  | 27 => ⟨S4, .i32⟩
  | 28 => ⟨S4x1, .i32⟩
  | 29 => ⟨S4x16x1, .f32⟩
  | 30 => ⟨S4x1x50000x1, .f32⟩
  | 31 => ⟨S50000x1x4x1, .f32⟩
  | 32 => ⟨S1x1x4x1, .f32⟩
  | 33 => ⟨S1x1x1x1, .f32⟩
  | 34 => ⟨S1x1x4x1, .f32⟩
  | 35 => ⟨S1x1x4x1, .f32⟩
  | 36 => ⟨S50000x1x4x1, .f32⟩
  | 37 => ⟨S50000x1x4x1, .f32⟩
  | _ => ⟨S50000x1x4x128, .f32⟩

abbrev hbmTy (i : Nat) : BufTy := match i / 128 with
  | 0 => hbmTy0_0 i
  | 1 => hbmTy0_1 i
  | _ => ⟨S50000x1x4x128, .f32⟩

abbrev bufTy : (tb : Table) → Fin (tcTables nBuf tb) → BufTy
  | .hbm, ⟨i, _⟩ => hbmTy i
  | _, _ => ⟨S50000x1x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_cst : Ref sig .tc := ⟨.hbm, 11, rfl⟩
abbrev main_c_0 : Ref sig .tc := ⟨.hbm, 12, rfl⟩
abbrev main_cst_1 : Ref sig .tc := ⟨.hbm, 13, rfl⟩
abbrev main_c_2 : Ref sig .tc := ⟨.hbm, 14, rfl⟩
abbrev main_v0 : Ref sig .tc := ⟨.hbm, 15, rfl⟩
abbrev main_v1 : Ref sig .tc := ⟨.hbm, 16, rfl⟩
abbrev main_c_3 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_4 : Ref sig .tc := ⟨.hbm, 23, rfl⟩
abbrev main_v7 : Ref sig .tc := ⟨.hbm, 24, rfl⟩
abbrev main_v8 : Ref sig .tc := ⟨.hbm, 25, rfl⟩
abbrev main_c_5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_6 : Ref sig .tc := ⟨.hbm, 34, rfl⟩
abbrev main_v16 : Ref sig .tc := ⟨.hbm, 35, rfl⟩
abbrev main_cst_7 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_8 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_9 : Ref sig .tc := ⟨.hbm, 47, rfl⟩
abbrev main_cst_10 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_cst : Ref sig .tc := ⟨.hbm, 52, rfl⟩
abbrev main_call0_v3 : Ref sig .tc := ⟨.hbm, 53, rfl⟩
abbrev main_call0_v4 : Ref sig .tc := ⟨.hbm, 54, rfl⟩
abbrev main_call0_cst_0 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_call0_v15 : Ref sig .tc := ⟨.hbm, 67, rfl⟩
abbrev main_call0_v16 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_11 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_c_12 : Ref sig .tc := ⟨.hbm, 85, rfl⟩
abbrev main_v41 : Ref sig .tc := ⟨.hbm, 86, rfl⟩
abbrev main_v42 : Ref sig .tc := ⟨.hbm, 87, rfl⟩
abbrev main_c_13 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_c_14 : Ref sig .tc := ⟨.hbm, 111, rfl⟩
abbrev main_v65 : Ref sig .tc := ⟨.hbm, 112, rfl⟩
abbrev main_v66 : Ref sig .tc := ⟨.hbm, 113, rfl⟩
abbrev main_c_15 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_16 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_c_17 : Ref sig .tc := ⟨.hbm, 134, rfl⟩
abbrev main_v85 : Ref sig .tc := ⟨.hbm, 135, rfl⟩
abbrev main_v86 : Ref sig .tc := ⟨.hbm, 136, rfl⟩
abbrev main_c_18 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_19 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_c_20 : Ref sig .tc := ⟨.hbm, 149, rfl⟩
abbrev main_v97 : Ref sig .tc := ⟨.hbm, 150, rfl⟩
abbrev main_v98 : Ref sig .tc := ⟨.hbm, 151, rfl⟩
abbrev main_c_21 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩

abbrev nD : Nat := 1
abbrev τ : Topo := Topo.v7x

variable {F : FTy → Type} [FloatOps F]
-- ==== Proof.Stages.lean ====
/- The layer cut into named stages, each a function of whole arrays at the extended reals, spelt in the operations both programs
   are printed in. The stages up to `project` are common to the kernel's program and the reference's; the edge coupling and the last
   projection differ, and each has one stage per program. -/
module

public import proofs.«01_k».proof.Defs
public import proofs.«01_k».proof.Proof.Gen.KernelIdeal
public import proofs.«01_k».proof.Proof.Gen.ReferenceIdeal

@[expose] public section

noncomputable section

namespace Cert.Layer

open Idealize.ShloMosaic Cert.ReferenceIdeal Cert.ReferenceIdeal.Gen

/-- Node numbers as start indices: a negative number counts from the end. -/
def wrap (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- Node numbers as scatter indices, taken as they are. -/
def column (i : IVec S800000 32) : IVec S800000x1 32 := broadcastInDim S800000x1 ![0] bcast_S800000_S800000x1_0 i

/-- The degree of each of the four components, as start indices. -/
def degrees : IVec S4x1 32 :=
  broadcastInDim S4x1 ![0] bcast_S4_S4x1_0
    (select (cmpi .slt (fun i => lit0 (S4.rowMajor i)) (broadcastInDim S4 ![] bcast_S_S4 (constantI S_ 32 0#32)))
      (addi (fun i => lit0 (S4.rowMajor i)) (broadcastInDim S4 ![] bcast_S_S4 (constantI S_ 32 2#32)))
      (fun i => lit0 (S4.rowMajor i)))

/-- The component that takes a bias: the first of the four. -/
def mask : FVec Ideal S4 .f32 := fun i => FloatOps.ofBits .f32 (lit1 (S4.rowMajor i))

/-- The displacement along each edge. -/
def edge (coords : FVec Ideal S50000x3 .f32) (dst src : IVec S800000 32) : FVec Ideal S800000x3 .f32 :=
  subf (Host.gather gather_S50000x3_S800000x1_S800000x3_1_0_n_n_0_1_13 coords (wrap dst))
    (Host.gather gather_S50000x3_S800000x1_S800000x3_1_0_n_n_0_1_13 coords (wrap src))

/-- The softened length of each displacement. -/
def dist (r : FVec Ideal S800000x3 .f32) : FVec Ideal S800000 .f32 :=
  Host.sqrt (addf (Host.reduceAdd (mulf r r) (constant S_ .f32 0x00000000#32) reducesTo_S800000x3_S800000_d1 h_S_)
    (broadcastInDim S800000 ![] bcast_S_S800000 (constant S_ .f32 0x2B8CBCCC#32)))

/-- The angular factor of each edge: a one, then the displacement over its length. -/
def sh (r : FVec Ideal S800000x3 .f32) (d : FVec Ideal S800000 .f32) : FVec Ideal S800000x4 .f32 :=
  concatenate S800000x4 1
    [⟨S800000x1, broadcastInDim S800000x1 ![0] bcast_S800000_S800000x1_0
        (broadcastInDim S800000 ![] bcast_S_S800000 (constant S_ .f32 0x3F800000#32))⟩,
     ⟨S800000x3, Host.divf r (broadcastInDim S800000x3 ![0, 1] bcast_S800000x1_S800000x3_0_1
        (broadcastInDim S800000x1 ![0] bcast_S800000_S800000x1_0 d))⟩]
    concatenates_S800000x1_S800000x3_S800000x4_d1

/-- The fifteen first steps of the way from the first centre to the last. -/
def ramp : FVec Ideal S15 .f32 :=
  Host.divf (sitofp .f32 (iotaInDim S15 32 0)) (broadcastInDim S15 ![] bcast_S_S15 (constant S_ .f32 0x41700000#32))

/-- The centres of the radial functions. -/
def centres : FVec Ideal S16 .f32 :=
  concatenate S16 0
    [⟨S15, addf
        (mulf (broadcastInDim S15 ![0] bcast_S1_S15_0 (shapeCast S1 (constant S_ .f32 0x00000000#32) shapeCasts_S_S1))
          (subf (broadcastInDim S15 ![] bcast_S_S15 (constant S_ .f32 0x3F800000#32)) ramp))
        (mulf (broadcastInDim S15 ![0] bcast_S1_S15_0 (shapeCast S1 (constant S_ .f32 0x40A00000#32) shapeCasts_S_S1)) ramp)⟩,
     ⟨S1, broadcastInDim S1 ![] bcast_S_S1 (constant S_ .f32 0x40A00000#32)⟩]
    concatenates_S15_S1_S16_d0

/-- The distance of each edge's length to each centre. -/
def offCentre (d : FVec Ideal S800000 .f32) (μ : FVec Ideal S16 .f32) : FVec Ideal S800000x16 .f32 :=
  subf (broadcastInDim S800000x16 ![0, 1] bcast_S800000x1_S800000x16_0_1
      (broadcastInDim S800000x1 ![0] bcast_S800000_S800000x1_0 d))
    (broadcastInDim S800000x16 ![0, 1] bcast_S1x16_S800000x16_0_1 (broadcastInDim S1x16 ![1] bcast_S16_S1x16_1 μ))

/-- The radial functions of each edge. -/
def rbf (t : FVec Ideal S800000x16 .f32) : FVec Ideal S800000x16 .f32 :=
  Host.exp (mulf (broadcastInDim S800000x16 ![] bcast_S_S800000x16 (constant S_ .f32 0xC0800000#32)) (mulf t t))

/-- The node features projected, component by component, with the first component's bias. -/
def project (x : FVec Ideal S50000x1x4x128 .f32) (W : FVec Ideal S2x128x16 .f32) (b : FVec Ideal S16 .f32) :
    FVec Ideal S50000x1x4x16 .f32 :=
  addf
    (transpose S50000x1x4x16 [2, 3, 0, 1]
      (Host.dotGeneral dot_S4x128x16_S50000x1x4x128_S4x16x50000x1_1_3_2_01_0_2 none
        (Host.gather gather_S2x128x16_S4x1_S4x128x16_12_0_n_n_0_1_112816 W degrees) x)
      transposes_S4x16x50000x1_S50000x1x4x16_2_3_0_1)
    (broadcastInDim S50000x1x4x16 ![0, 1, 2, 3] bcast_S1x1x4x16_S50000x1x4x16_0_1_2_3
      (mulf (broadcastInDim S1x1x4x16 ![0, 1, 2, 3] bcast_S1x1x4x1_S1x1x4x16_0_1_2_3
          (broadcastInDim S1x1x4x1 ![2] bcast_S4_S1x1x4x1_2 mask))
        (broadcastInDim S1x1x4x16 ![0, 1, 2, 3] bcast_S1x1x1x16_S1x1x4x16_0_1_2_3
          (broadcastInDim S1x1x1x16 ![3] bcast_S16_S1x1x1x16_3 b))))

/-- The first and the second round's weights. -/
def weight0 (W : FVec Ideal S2x16x16 .f32) : FVec Ideal S16x16 .f32 :=
  shapeCast S16x16 (extractStridedSlice S1x16x16 ![0, 0, 0] W slices_S2x16x16_S1x16x16_0_0_0) shapeCasts_S1x16x16_S16x16
@[inherit_doc weight0]
def weight1 (W : FVec Ideal S2x16x16 .f32) : FVec Ideal S16x16 .f32 :=
  shapeCast S16x16 (extractStridedSlice S1x16x16 ![1, 0, 0] W slices_S2x16x16_S1x16x16_1_0_0) shapeCasts_S1x16x16_S16x16

/-- The first and the second round's biases. -/
def bias0 (b : FVec Ideal S2x16 .f32) : FVec Ideal S16 .f32 :=
  shapeCast S16 (extractStridedSlice S1x16 ![0, 0] b slices_S2x16_S1x16_0_0) shapeCasts_S1x16_S16
@[inherit_doc bias0]
def bias1 (b : FVec Ideal S2x16 .f32) : FVec Ideal S16 .f32 :=
  shapeCast S16 (extractStridedSlice S1x16 ![1, 0] b slices_S2x16_S1x16_1_0) shapeCasts_S1x16_S16

/-! ## The reference's rounds and result -/

/-- The reference's basis: every angular factor times every radial function. -/
def basis (y : FVec Ideal S800000x4 .f32) (g : FVec Ideal S800000x16 .f32) : FVec Ideal S800000x1x4x16 .f32 :=
  mulf (broadcastInDim S800000x1x4x16 ![0, 1, 2, 3] bcast_S800000x1x4x1_S800000x1x4x16_0_1_2_3
      (broadcastInDim S800000x1x4x1 ![0, 2] bcast_S800000x4_S800000x1x4x1_0_2 y))
    (broadcastInDim S800000x1x4x16 ![0, 1, 2, 3] bcast_S800000x1x1x16_S800000x1x4x16_0_1_2_3
      (broadcastInDim S800000x1x1x16 ![0, 3] bcast_S800000x16_S800000x1x1x16_0_3 g))

/-- The reference's edge factors: the basis projected by the round's weights, with its bias. -/
def refFactor (B : FVec Ideal S800000x1x4x16 .f32) (W : FVec Ideal S16x16 .f32) (b : FVec Ideal S16 .f32) :
    FVec Ideal S800000x1x4x16 .f32 :=
  addf (Host.dotGeneral dot_S800000x1x4x16_S16x16_S800000x1x4x16_3_0_012_1_n_n none B W)
    (broadcastInDim S800000x1x4x16 ![0, 1, 2, 3] bcast_S1x1x1x16_S800000x1x4x16_0_1_2_3
      (broadcastInDim S1x1x1x16 ![3] bcast_S16_S1x1x1x16_3 b))

/-- The reference's round: each node's features plus the sum of the messages that end there. -/
def refRound (x : FVec Ideal S50000x1x4x16 .f32) (p : FVec Ideal S800000x1x4x16 .f32) (dst src : IVec S800000 32) :
    FVec Ideal S50000x1x4x16 .f32 :=
  addf x (Host.scatterAdd scatter_S50000x1x4x16_S800000x1_S800000x1x4x16_123_0_0_1
    (broadcastInDim S50000x1x4x16 ![] bcast_S_S50000x1x4x16 (constant S_ .f32 0x00000000#32)) (column dst)
    (mulf (Host.gather gather_S50000x1x4x16_S800000x1_S800000x1x4x16_123_0_n_n_0_1_11416 x (wrap src)) p))

/-- The reference's last projection. -/
def refOut (x : FVec Ideal S50000x1x4x16 .f32) (W : FVec Ideal S2x16x1 .f32) (b : FVec Ideal S1 .f32) :
    FVec Ideal S50000x1x4x1 .f32 :=
  addf
    (transpose S50000x1x4x1 [2, 3, 0, 1]
      (Host.dotGeneral dot_S4x16x1_S50000x1x4x16_S4x1x50000x1_1_3_2_01_0_2 none
        (Host.gather gather_S2x16x1_S4x1_S4x16x1_12_0_n_n_0_1_1161 W degrees) x)
      transposes_S4x1x50000x1_S50000x1x4x1_2_3_0_1)
    (broadcastInDim S50000x1x4x1 ![0, 1, 2, 3] bcast_S1x1x4x1_S50000x1x4x1_0_1_2_3
      (mulf (broadcastInDim S1x1x4x1 ![2] bcast_S4_S1x1x4x1_2 mask)
        (broadcastInDim S1x1x4x1 ![0, 1, 2, 3] bcast_S1x1x1x1_S1x1x4x1_0_1_2_3
          (broadcastInDim S1x1x1x1 ![3] bcast_S1_S1x1x1x1_3 b))))

end Cert.Layer

namespace Cert.Layer

open Idealize.ShloMosaic Cert.KernelIdeal Cert.KernelIdeal.Gen

/-! ## The kernel's program: its rounds, and what it hands to the last kernel -/

/-- The kernel's edge factors: the radial functions projected by the round's weights, times every angular factor, with the
    round's bias. -/
def kerFactor (y : FVec Ideal S800000x4 .f32) (g : FVec Ideal S800000x16 .f32) (W : FVec Ideal S16x16 .f32)
    (b : FVec Ideal S16 .f32) : FVec Ideal S800000x4x16 .f32 :=
  addf
    (mulf (broadcastInDim S800000x4x16 ![0, 1, 2] bcast_S800000x4x1_S800000x4x16_0_1_2
        (broadcastInDim S800000x4x1 ![0, 1] bcast_S800000x4_S800000x4x1_0_1 y))
      (broadcastInDim S800000x4x16 ![0, 1, 2] bcast_S800000x1x16_S800000x4x16_0_1_2
        (broadcastInDim S800000x1x16 ![0, 2] bcast_S800000x16_S800000x1x16_0_2
          (Host.dotGeneral dot_S800000x16_S16x16_S800000x16_1_0_0_1_n_n none g W))))
    (broadcastInDim S800000x4x16 ![0, 1, 2] bcast_S1x1x16_S800000x4x16_0_1_2
      (broadcastInDim S1x1x16 ![2] bcast_S16_S1x1x16_2 b))

/-- Node numbers beside a column of zeros: start indices on the first two axes. -/
def wrapPair (i : IVec S800000 32) : IVec S800000x2 32 :=
  concatenate S800000x2 1
    [⟨S800000x1, wrap i⟩,
     ⟨S800000x1, broadcastInDim S800000x1 ![0] bcast_S800000_S800000x1_0
        (broadcastInDim S800000 ![] bcast_S_S800000 (constantI S_ 32 0#32))⟩]
    concatenates_S800000x1_S800000x1_S800000x2_d1

/-- The kernel's round: each node's features plus the sum of the messages that end there, summed without the unit axis. -/
def kerRound (x : FVec Ideal S50000x1x4x16 .f32) (p : FVec Ideal S800000x4x16 .f32) (dst src : IVec S800000 32) :
    FVec Ideal S50000x1x4x16 .f32 :=
  addf x (broadcastInDim S50000x1x4x16 ![0, 2, 3] bcast_S50000x4x16_S50000x1x4x16_0_2_3
    (Host.scatterAdd scatter_S50000x4x16_S800000x1_S800000x4x16_12_0_0_1
      (broadcastInDim S50000x4x16 ![] bcast_S_S50000x4x16 (constant S_ .f32 0x00000000#32)) (column dst)
      (mulf (Host.gather gather_S50000x1x4x16_S800000x2_S800000x4x16_12_01_n_n_01_1_11416 x (wrapPair src)) p)))

/-- The features laid out one node to a row, the last kernel's first operand. -/
def rows (x : FVec Ideal S50000x1x4x16 .f32) : FVec Ideal S50000x64 .f32 :=
  shapeCast S50000x64 x shapeCasts_S50000x1x4x16_S50000x64

/-- The output weights of the first degree and of the second. -/
def outWeight0 (W : FVec Ideal S2x16x1 .f32) : FVec Ideal S16 .f32 :=
  shapeCast S16 (extractStridedSlice S1x16x1 ![0, 0, 0] W slices_S2x16x1_S1x16x1_0_0_0) shapeCasts_S1x16x1_S16
@[inherit_doc outWeight0]
def outWeight1 (W : FVec Ideal S2x16x1 .f32) : FVec Ideal S16 .f32 :=
  shapeCast S16 (extractStridedSlice S1x16x1 ![1, 0, 0] W slices_S2x16x1_S1x16x1_1_0_0) shapeCasts_S1x16x1_S16

/-- The output weights of the four components in a row, the last kernel's second operand. -/
def outRow (W : FVec Ideal S2x16x1 .f32) : FVec Ideal S1x64 .f32 :=
  shapeCast S1x64
    (concatenate S64 0 [⟨S16, outWeight0 W⟩, ⟨S16, outWeight1 W⟩, ⟨S16, outWeight1 W⟩, ⟨S16, outWeight1 W⟩]
      concatenates_S16_S16_S16_S16_S64_d0)
    shapeCasts_S64_S1x64

/-- The output bias of the four components, the last kernel's third operand. -/
def biasRow (b : FVec Ideal S1 .f32) : FVec Ideal S1x4 .f32 :=
  mulf (shapeCast S1x4 (fun i => FloatOps.ofBits .f32 (lit2 (S4.rowMajor i)) : FVec Ideal S4 .f32) shapeCasts_S4_S1x4)
    (broadcastInDim S1x4 ![] bcast_S_S1x4 (shapeCast S_ b shapeCasts_S1_S_))

end Cert.Layer

end
-- ==== Proof.Reals.lean ====
/- Extended reals that are real numbers: where the layer's angular and radial factors live, and the law that moves a factor
   into a finite sum, which holds for real numbers and not for all extended reals. -/
module

public import Idealize.ShloMosaic.Lib.Pointwise

@[expose] public section

noncomputable section

namespace Cert.Layer

open Idealize.ShloMosaic

/-- An extended real that is a real number. -/
def IsReal (x : EReal) : Prop := ∃ r : ℝ, x = (r : EReal)

/-- A number that is neither infinity is real. -/
theorem isReal_of_ne {x : EReal} (hb : x ≠ ⊥) (ht : x ≠ ⊤) : IsReal x := ⟨x.toReal, (EReal.coe_toReal ht hb).symm⟩

/-- A square is not negative. -/
theorem zero_le_sq (x : EReal) : 0 ≤ x * x := by
  induction x with
  | bot => simp
  | top => simp
  | coe r => rw [← EReal.coe_mul]; exact EReal.coe_nonneg.mpr (mul_self_nonneg r)

/-- A number whose square is not infinite is real. -/
theorem isReal_of_sq {x : EReal} (h : x * x ≠ ⊤) : IsReal x := by
  refine isReal_of_ne ?_ ?_ <;> rintro rfl <;> exact h (by simp)

/-- A number is not infinite if adding one that is not negative to it does not give infinity. -/
theorem ne_top_of_add {x y : EReal} (hy : 0 ≤ y) (h : x + y ≠ ⊤) : x ≠ ⊤ := by
  rintro rfl
  refine h (EReal.top_add_of_ne_bot ?_)
  rintro rfl
  exact absurd hy (by simp)

/-- The exponential of a number that is not positive is real. -/
theorem isReal_exp {x : EReal} (h : x ≤ 0) : IsReal (Ideal.exp x) := by
  induction x with
  | bot => exact ⟨0, rfl⟩
  | top => exact absurd h (by simp)
  | coe r => exact ⟨Real.exp r, rfl⟩

/-- Dividing by the square root of a positive number gives a real number, if what is divided is real wherever the positive number
    is finite: at infinity the quotient is zero. -/
theorem isReal_div_sqrt {x s : EReal} (hs : 0 < s) (hx : s ≠ ⊤ → IsReal x) : IsReal (Ideal.div x (Ideal.sqrt s)) := by
  induction s with
  | bot => exact absurd hs (by simp)
  | top =>
    have h : Ideal.sqrt ⊤ = ⊤ := rfl
    refine ⟨0, ?_⟩
    simp [h, Ideal.div]
  | coe r =>
    have hr : 0 < r := EReal.coe_pos.mp hs
    obtain ⟨a, rfl⟩ := hx (EReal.coe_ne_top r)
    have h : Ideal.sqrt (r : EReal) = (Real.sqrt r : EReal) := by
      show (if r < 0 then (⊥ : EReal) else (Real.sqrt r : EReal)) = _
      rw [if_neg (not_lt.mpr hr.le)]
    have h0 : ((Real.sqrt r : ℝ) : EReal) ≠ 0 := by
      exact_mod_cast (Real.sqrt_pos.mpr hr).ne'
    refine ⟨a * (Real.sqrt r)⁻¹, ?_⟩
    rw [h, Ideal.div, if_neg h0, EReal.coe_mul, EReal.coe_inv]

/-- A real factor moves into a finite sum of products of real numbers. -/
theorem mul_sum_real {n : ℕ} {y : EReal} {g w : Fin n → EReal} (hy : IsReal y) (hg : ∀ k, IsReal (g k))
    (hw : ∀ k, IsReal (w k)) : y * ∑ k, g k * w k = ∑ k, y * g k * w k := by
  obtain ⟨y, rfl⟩ := hy
  choose g' hg using hg
  choose w' hw using hw
  have coe_sum : ∀ f : Fin n → ℝ, ((∑ k, f k : ℝ) : EReal) = ∑ k, ((f k : ℝ) : EReal) := fun f =>
    map_sum (⟨⟨((↑) : ℝ → EReal), EReal.coe_zero⟩, EReal.coe_add⟩ : ℝ →+ EReal) f Finset.univ
  simp only [hg, hw, ← EReal.coe_mul, ← coe_sum, Finset.mul_sum, mul_assoc]

end Cert.Layer

end
-- ==== Proof.Factors.lean ====
/- The edge factors: the kernel multiplies by the angular factor after the projection, the reference before it. -/
module

public import proofs.«01_k».proof.Proof.Stages
public import proofs.«01_k».proof.Proof.Reals

@[expose] public section

noncomputable section

namespace Cert.Layer

open Idealize.ShloMosaic Cert.ReferenceIdeal Cert.ReferenceIdeal.Gen

/-- The kernel's edge factor at an edge, a component and a feature. -/
theorem kerFactor_apply (y : FVec Ideal S800000x4 .f32) (g : FVec Ideal S800000x16 .f32) (W : FVec Ideal S16x16 .f32)
    (b : FVec Ideal S16 .f32) (e : Fin 800000) (l : Fin 4) (f : Fin 16) :
    kerFactor y g W b (ix3 e l f) = y (ix2 e l) * (∑ k : Fin 16, g (ix2 e k) * W (ix2 k f)) + b (ix1 f) := by
  pointwise [kerFactor]

/-- The reference's edge factor at the same place. -/
theorem refFactor_apply (y : FVec Ideal S800000x4 .f32) (g : FVec Ideal S800000x16 .f32) (W : FVec Ideal S16x16 .f32)
    (b : FVec Ideal S16 .f32) (e : Fin 800000) (l : Fin 4) (f : Fin 16) :
    refFactor (basis y g) W b (ix4 e 0 l f) = (∑ k : Fin 16, y (ix2 e l) * g (ix2 e k) * W (ix2 k f)) + b (ix1 f) := by
  pointwise [refFactor, basis]

end Cert.Layer

end
-- ==== Proof.Angular.lean ====
/- The angular and the radial factors are real numbers, whatever the coordinates: a displacement over its softened length is
   bounded, and so is the exponential of minus a square. -/
module

public import proofs.«01_k».proof.Proof.Stages
public import proofs.«01_k».proof.Proof.Reals

@[expose] public section

noncomputable section

namespace Cert.Layer

open Idealize.ShloMosaic Cert.ReferenceIdeal Cert.ReferenceIdeal.Gen

/-- The softened length of an edge. -/
theorem dist_apply (r : FVec Ideal S800000x3 .f32) (e : Fin 800000) :
    dist r (ix1 e) = Ideal.sqrt ((∑ k : Fin 3, r (ix2 e k) * r (ix2 e k)) + Ideal.ofBits .f32 0x2B8CBCCC#32) := by
  pointwise [dist]

/-- The radial function of an edge and a centre. -/
theorem rbf_apply (t : FVec Ideal S800000x16 .f32) (e : Fin 800000) (k : Fin 16) :
    rbf t (ix2 e k) = Ideal.exp (Ideal.ofBits .f32 0xC0800000#32 * (t (ix2 e k) * t (ix2 e k))) := by
  pointwise [rbf]

/-- The first angular factor of an edge is one. -/
theorem sh_zero (r : FVec Ideal S800000x3 .f32) (d : FVec Ideal S800000 .f32) (e : Fin 800000) :
    sh r d (ix2 e 0) = 1 := by
  pointwise [sh]

/-- The others are the displacement's components over the length. -/
theorem sh_succ (r : FVec Ideal S800000x3 .f32) (d : FVec Ideal S800000 .f32) (e : Fin 800000) (l : Fin 3) :
    sh r d (ix2 e l.succ) = Ideal.div (r (ix2 e l)) (d (ix1 e)) := by
  pointwise [sh]
  simp

/-- The number that softens the length is positive. -/
theorem soft_pos : 0 < Ideal.ofBits .f32 0x2B8CBCCC#32 := by
  simp [Ideal.ofBits, Ideal.ieee, -EReal.coe_mul]

/-- The radial functions' coefficient is not positive. -/
theorem coeff_nonpos : Ideal.ofBits .f32 0xC0800000#32 ≤ 0 := by
  simp [Ideal.ofBits, Ideal.ieee, -EReal.coe_mul, -EReal.coe_neg]

/-- Every radial function is real, whatever its argument. -/
theorem rbf_real (t : FVec Ideal S800000x16 .f32) (e : Fin 800000) (k : Fin 16) : IsReal (rbf t (ix2 e k)) := by
  rw [rbf_apply]
  exact isReal_exp (mul_nonpos_of_nonpos_of_nonneg coeff_nonpos (zero_le_sq _))

/-- Every angular factor is real, whatever the displacement. -/
theorem sh_real (r : FVec Ideal S800000x3 .f32) (e : Fin 800000) (l : Fin 4) : IsReal (sh r (dist r) (ix2 e l)) := by
  induction l using Fin.cases with
  | zero => exact ⟨1, by rw [sh_zero]; rfl⟩
  | succ l =>
    rw [sh_succ, dist_apply]
    have hsq : ∀ k, 0 ≤ r (ix2 e k) * r (ix2 e k) := fun k => zero_le_sq _
    refine isReal_div_sqrt ?_ fun h => isReal_of_sq ?_
    · exact lt_of_lt_of_le soft_pos (le_add_of_nonneg_left (Finset.sum_nonneg fun k _ => hsq k))
    · have hsum := ne_top_of_add soft_pos.le h
      rw [← Finset.add_sum_erase _ _ (Finset.mem_univ l)] at hsum
      exact ne_top_of_add (Finset.sum_nonneg fun k _ => hsq k) hsum

end Cert.Layer

end
-- ==== Proof.Rounds.lean ====
/- One round of messages: the two programs take the same rows of the features, and add the same messages at every node. -/
module

public import proofs.«01_k».proof.Proof.Factors
public import Idealize.ShloMosaic.Lib.Routing.OpsPair

@[expose] public section

noncomputable section

namespace Cert.Layer

open Idealize.ShloMosaic Cert.ReferenceIdeal Cert.ReferenceIdeal.Gen

/-- The node that a start index names: read as a signed number and clamped into the array. -/
def node (i : BitVec 32) : Fin 50000 := ⟨min i.toInt.toNat 49999, by omega⟩

/-- A gather read at an element: the operand at the index whose coordinates are the three parts of the operand's index added. -/
theorem gather_at {α : Type} {s si u : Shape} {w : Nat} (d : GatherDims s si u) (x : s.Idx → α) (idx : IVec si w) (j : u.Idx)
    (i : s.Idx) (h : ∀ a, d.start j idx a + d.batchCoord j a + d.offCoord j a = (i a).val) : Host.gather d x idx j = x i := by
  unfold Host.gather
  exact congrArg x (funext fun a => Fin.ext (h a))

/-- The reference's gather at an edge: the features of the node its start index names. -/
theorem refGather_apply (x : FVec Ideal S50000x1x4x16 .f32) (idx : IVec S800000x1 32) (e : Fin 800000) (l : Fin 4) (f : Fin 16) :
    Host.gather gather_S50000x1x4x16_S800000x1_S800000x1x4x16_123_0_n_n_0_1_11416 x idx (ix4 e 0 l f)
      = x (ix4 (node (idx (ix2 e 0))) 0 l f) := by
  have hsi : ∀ k, gather_S50000x1x4x16_S800000x1_S800000x1x4x16_123_0_n_n_0_1_11416.siIdx (ix4 e 0 l f) k = ix2 e 0 := by
    intro k
    funext b; refine Fin.ext ?_
    match b with
    | ⟨0, _⟩ => rfl
    | ⟨1, _⟩ => exact Nat.lt_one_iff.mp k.isLt
  refine gather_at _ _ _ _ _ fun a => ?_
  match a with
  | ⟨0, _⟩ =>
    refine Eq.trans (b := _ + 0 + 0) (congrArg (· + 0 + 0) (dif_pos (show (0 : Fin 4) ∈ [(0 : Fin 4)] by decide))) ?_
    rw [hsi]
    rfl
  | ⟨1, _⟩ => rfl
  | ⟨2, _⟩ => show 0 + 0 + l.val = l.val; omega
  | ⟨3, _⟩ => show 0 + 0 + f.val = f.val; omega

/-- The kernel's gather at an edge: the same features. Its second start index ranges over the unit axis, which has one place. -/
theorem kerGather_apply (x : FVec Ideal S50000x1x4x16 .f32) (idx : IVec Cert.KernelIdeal.S800000x2 32) (e : Fin 800000) (l : Fin 4) (f : Fin 16) :
    Host.gather Cert.KernelIdeal.gather_S50000x1x4x16_S800000x2_S800000x4x16_12_01_n_n_01_1_11416 x idx (ix3 e l f)
      = x (ix4 (node (idx (ix2 e 0))) 0 l f) := by
  have hsi : ∀ (k) (hk : k.val = 0),
      Cert.KernelIdeal.gather_S50000x1x4x16_S800000x2_S800000x4x16_12_01_n_n_01_1_11416.siIdx (ix3 e l f) k = ix2 e 0 := by
    intro k hk
    funext b; refine Fin.ext ?_
    match b with
    | ⟨0, _⟩ => rfl
    | ⟨1, _⟩ => exact hk
  refine gather_at _ _ _ _ _ fun a => ?_
  match a with
  | ⟨0, _⟩ =>
    refine Eq.trans (b := _ + 0 + 0) (congrArg (· + 0 + 0) (dif_pos (show (0 : Fin 4) ∈ [(0 : Fin 4), 1] by decide))) ?_
    rw [hsi _ rfl]
    rfl
  | ⟨1, _⟩ =>
    refine Eq.trans (b := _ + 0 + 0) (congrArg (· + 0 + 0) (dif_pos (show (1 : Fin 4) ∈ [(0 : Fin 4), 1] by decide))) ?_
    exact Nat.min_zero _
  | ⟨2, _⟩ => show 0 + 0 + l.val = l.val; omega
  | ⟨3, _⟩ => show 0 + 0 + f.val = f.val; omega

/-- A scatter that adds, read at an element: what was there plus every update that lands there. -/
theorem scatterAdd_at {s si u : Shape} {w : Nat} (d : ScatterDims s si u) (x : FVec Ideal s .f32) (idx : IVec si w)
    (upd : FVec Ideal u .f32) (i : s.Idx) : Host.scatterAdd d x idx upd i
      = x i + ∑ j ∈ Finset.univ.filter (fun j => d.resultIdx? j idx = some i), upd j := rfl

/-- Where the reference's update lands: on the node its index names, at its own component and feature. -/
theorem refScatter_lands (idx : IVec S800000x1 32) (e : Fin 800000) (l l' : Fin 4) (f f' : Fin 16) (n : Fin 50000) :
    scatter_S50000x1x4x16_S800000x1_S800000x1x4x16_123_0_0_1.resultIdx? (ix4 e 0 l' f') idx = some (ix4 n 0 l f)
      ↔ (idx (ix2 e 0)).toInt = n.val ∧ l' = l ∧ f' = f := by
  rw [Routing.resultIdx?_eq_some]
  have hsi : ∀ k, scatter_S50000x1x4x16_S800000x1_S800000x1x4x16_123_0_0_1.siIdx (ix4 e 0 l' f') k = ix2 e 0 := by
    intro k
    funext b; refine Fin.ext ?_
    match b with
    | ⟨0, _⟩ => rfl
    | ⟨1, _⟩ => exact Nat.lt_one_iff.mp k.isLt
  have h0 : scatter_S50000x1x4x16_S800000x1_S800000x1x4x16_123_0_0_1.start (ix4 e 0 l' f') idx 0 = (idx (ix2 e 0)).toInt :=
    (dif_pos (show (0 : Fin 4) ∈ [(0 : Fin 4)] from List.mem_singleton.mpr rfl)).trans (by rw [hsi])
  constructor
  · intro h
    have a0 := h 0
    have a2 : (0 : Int) + (l'.val : Int) = l.val := h 2
    have a3 : (0 : Int) + (f'.val : Int) = f.val := h 3
    rw [h0] at a0
    have a0' : (idx (ix2 e 0)).toInt + ((0 : Nat) : Int) = n.val := a0
    exact ⟨by omega, Fin.ext (by omega), Fin.ext (by omega)⟩
  · rintro ⟨hn, rfl, rfl⟩ a
    match a with
    | ⟨0, _⟩ =>
      refine (congrArg (· + ((0 : Nat) : Int)) h0).trans ?_
      show (idx (ix2 e 0)).toInt + ((0 : Nat) : Int) = (n.val : Int)
      omega
    | ⟨1, _⟩ => rfl
    | ⟨2, _⟩ => show (0 : Int) + (l'.val : Int) = l'.val; omega
    | ⟨3, _⟩ => show (0 : Int) + (f'.val : Int) = f'.val; omega

/-- Where the kernel's update lands: the same node, component and feature. -/
theorem kerScatter_lands (idx : IVec S800000x1 32) (e : Fin 800000) (l l' : Fin 4) (f f' : Fin 16) (n : Fin 50000) :
    Cert.KernelIdeal.scatter_S50000x4x16_S800000x1_S800000x4x16_12_0_0_1.resultIdx? (ix3 e l' f') idx = some (ix3 n l f)
      ↔ (idx (ix2 e 0)).toInt = n.val ∧ l' = l ∧ f' = f := by
  rw [Routing.resultIdx?_eq_some]
  have hsi : ∀ k, Cert.KernelIdeal.scatter_S50000x4x16_S800000x1_S800000x4x16_12_0_0_1.siIdx (ix3 e l' f') k = ix2 e 0 := by
    intro k
    funext b; refine Fin.ext ?_
    match b with
    | ⟨0, _⟩ => rfl
    | ⟨1, _⟩ => exact Nat.lt_one_iff.mp k.isLt
  have h0 : Cert.KernelIdeal.scatter_S50000x4x16_S800000x1_S800000x4x16_12_0_0_1.start (ix3 e l' f') idx 0
      = (idx (ix2 e 0)).toInt :=
    (dif_pos (show (0 : Fin 3) ∈ [(0 : Fin 3)] from List.mem_singleton.mpr rfl)).trans (by rw [hsi])
  constructor
  · intro h
    have a0 := h 0
    have a1 : (0 : Int) + (l'.val : Int) = l.val := h 1
    have a2 : (0 : Int) + (f'.val : Int) = f.val := h 2
    rw [h0] at a0
    have a0' : (idx (ix2 e 0)).toInt + ((0 : Nat) : Int) = n.val := a0
    exact ⟨by omega, Fin.ext (by omega), Fin.ext (by omega)⟩
  · rintro ⟨hn, rfl, rfl⟩ a
    match a with
    | ⟨0, _⟩ =>
      refine (congrArg (· + ((0 : Nat) : Int)) h0).trans ?_
      show (idx (ix2 e 0)).toInt + ((0 : Nat) : Int) = (n.val : Int)
      omega
    | ⟨1, _⟩ => show (0 : Int) + (l'.val : Int) = l'.val; omega
    | ⟨2, _⟩ => show (0 : Int) + (f'.val : Int) = f'.val; omega

/-- The two programs' sums of messages at a node agree when their messages do. -/
theorem scatter_eq (z : FVec Ideal S50000x1x4x16 .f32) (z' : FVec Ideal Cert.KernelIdeal.S50000x4x16 .f32)
    (idx : IVec S800000x1 32) (q : FVec Ideal S800000x1x4x16 .f32) (p : FVec Ideal Cert.KernelIdeal.S800000x4x16 .f32)
    (hz : ∀ n l f, z' (ix3 n l f) = z (ix4 n 0 l f)) (hp : ∀ e l f, p (ix3 e l f) = q (ix4 e 0 l f))
    (n : Fin 50000) (l : Fin 4) (f : Fin 16) :
    Host.scatterAdd Cert.KernelIdeal.scatter_S50000x4x16_S800000x1_S800000x4x16_12_0_0_1 z' idx p (ix3 n l f)
      = Host.scatterAdd scatter_S50000x1x4x16_S800000x1_S800000x1x4x16_123_0_0_1 z idx q (ix4 n 0 l f) := by
  refine (scatterAdd_at _ _ _ _ _).trans (Eq.trans ?_ (scatterAdd_at _ _ _ _ _).symm)
  refine congrArg₂ (· + ·) (hz n l f) ?_
  refine Finset.sum_nbij' (fun j => ix4 (j 0) 0 (j 1) (j 2)) (fun j => ix3 (j 0) (j 2) (j 3)) ?_ ?_ ?_ ?_ ?_
  · intro j hj
    obtain ⟨e, l', f', rfl⟩ : ∃ e l' f', j = ix3 e l' f' := ⟨_, _, _, eq_ix3 j⟩
    have := (kerScatter_lands idx e l l' f f' n).mp (Finset.mem_filter.mp hj).2
    exact Finset.mem_filter.mpr ⟨Finset.mem_univ _, (refScatter_lands idx e l l' f f' n).mpr this⟩
  · intro j hj
    obtain ⟨e, o, l', f', rfl⟩ : ∃ e o l' f', j = ix4 e o l' f' := ⟨_, _, _, _, eq_ix4 j⟩
    obtain rfl : o = 0 := Subsingleton.elim _ _
    have := (refScatter_lands idx e l l' f f' n).mp (Finset.mem_filter.mp hj).2
    exact Finset.mem_filter.mpr ⟨Finset.mem_univ _, (kerScatter_lands idx e l l' f f' n).mpr this⟩
  · intro j _
    exact ix3_eta j
  · intro j _
    obtain ⟨e, o, l', f', rfl⟩ : ∃ e o l' f', j = ix4 e o l' f' := ⟨_, _, _, _, eq_ix4 j⟩
    obtain rfl : o = 0 := Subsingleton.elim _ _
    rfl
  · intro j _
    obtain ⟨e, l', f', rfl⟩ : ∃ e l' f', j = ix3 e l' f' := ⟨_, _, _, eq_ix3 j⟩
    exact hp e l' f'

/-- The first of the kernel's two start indices is the reference's one. -/
theorem wrapPair_apply (src : IVec S800000 32) (e : Fin 800000) : wrapPair src (ix2 e 0) = wrap src (ix2 e 0) := by
  pointwise [wrapPair]

/-- Node sums given back their unit axis. -/
theorem spread_apply (v : FVec Ideal Cert.KernelIdeal.S50000x4x16 .f32) (n : Fin 50000) (l : Fin 4) (f : Fin 16) :
    broadcastInDim S50000x1x4x16 ![0, 2, 3] Cert.KernelIdeal.Gen.bcast_S50000x4x16_S50000x1x4x16_0_2_3 v (ix4 n 0 l f)
      = v (ix3 n l f) := by
  pointwise

/-- The kernel's messages are the reference's when the edge factors agree. -/
theorem message_eq (x : FVec Ideal S50000x1x4x16 .f32) (p : FVec Ideal Cert.KernelIdeal.S800000x4x16 .f32)
    (q : FVec Ideal S800000x1x4x16 .f32) (src : IVec S800000 32) (e : Fin 800000) (l : Fin 4) (f : Fin 16)
    (hp : p (ix3 e l f) = q (ix4 e 0 l f)) :
    mulf (Host.gather Cert.KernelIdeal.gather_S50000x1x4x16_S800000x2_S800000x4x16_12_01_n_n_01_1_11416 x (wrapPair src)) p
        (ix3 e l f)
      = mulf (Host.gather gather_S50000x1x4x16_S800000x1_S800000x1x4x16_123_0_n_n_0_1_11416 x (wrap src)) q (ix4 e 0 l f) := by
  refine congrArg₂ (fun a b : EReal => a * b) ?_ hp
  exact (kerGather_apply x _ e l f).trans ((congrArg (fun i => x (ix4 (node i) 0 l f)) (wrapPair_apply src e)).trans
    (refGather_apply x _ e l f).symm)

/-- One round of the kernel is one round of the reference when their edge factors agree. -/
theorem round_eq (x : FVec Ideal S50000x1x4x16 .f32) (p : FVec Ideal Cert.KernelIdeal.S800000x4x16 .f32)
    (q : FVec Ideal S800000x1x4x16 .f32) (dst src : IVec S800000 32) (hp : ∀ e l f, p (ix3 e l f) = q (ix4 e 0 l f)) :
    kerRound x p dst src = refRound x q dst src := by
  funext i
  obtain ⟨n, o, l, f, rfl⟩ : ∃ n o l f, i = ix4 n o l f := ⟨_, _, _, _, eq_ix4 i⟩
  obtain rfl : o = 0 := Subsingleton.elim _ _
  unfold kerRound refRound
  refine congrArg (fun a : EReal => x (ix4 n 0 l f) + a) ((spread_apply _ n l f).trans ?_)
  exact scatter_eq _ _ _ _ _ (fun n l f => by pointwise) (fun e l f => message_eq x p q src e l f (hp e l f)) n l f

end Cert.Layer

end
-- ==== Proof.Output.lean ====
/- The last projection: the reference's at an element, and the operands the kernel's program prepares for its own. -/
module

public import proofs.«01_k».proof.Proof.Rounds

@[expose] public section

noncomputable section

namespace Cert.Layer

open Idealize.ShloMosaic Cert.ReferenceIdeal Cert.ReferenceIdeal.Gen

/-- The degree of a component: zero for the first, one for the other three. -/
def degree (l : Fin 4) : Fin 2 := ![0, 1, 1, 1] l

/-- The output weights gathered by degree. -/
theorem degreeGather_apply (W : FVec Ideal S2x16x1 .f32) (l : Fin 4) (k : Fin 16) :
    Host.gather gather_S2x16x1_S4x1_S4x16x1_12_0_n_n_0_1_1161 W degrees (ix3 l k 0) = W (ix3 (degree l) k 0) := by
  have hsi : ∀ j, gather_S2x16x1_S4x1_S4x16x1_12_0_n_n_0_1_1161.siIdx (ix3 l k 0) j = ix2 l 0 := by
    intro j
    funext b; refine Fin.ext ?_
    match b with
    | ⟨0, _⟩ => rfl
    | ⟨1, _⟩ => exact Nat.lt_one_iff.mp j.isLt
  refine gather_at _ _ _ _ _ fun a => ?_
  match a with
  | ⟨0, _⟩ =>
    refine Eq.trans (b := _ + 0 + 0) (congrArg (· + 0 + 0) (dif_pos (show (0 : Fin 3) ∈ [(0 : Fin 3)] by decide))) ?_
    rw [hsi]
    clear hsi
    show min (degrees (ix2 l 0)).toInt.toNat 1 + 0 + 0 = (degree l).val
    revert l
    decide
  | ⟨1, _⟩ => show 0 + 0 + k.val = k.val; omega
  | ⟨2, _⟩ => rfl

/-- The reference's result at a node and a component. -/
theorem refOut_apply (x : FVec Ideal S50000x1x4x16 .f32) (W : FVec Ideal S2x16x1 .f32) (b : FVec Ideal S1 .f32)
    (n : Fin 50000) (l : Fin 4) :
    refOut x W b (ix4 n 0 l 0)
      = (∑ k : Fin 16, W (ix3 (degree l) k 0) * x (ix4 n 0 l k)) + mask (ix1 l) * b (ix1 0) := by
  simp only [← degreeGather_apply]
  pointwise [refOut]

/-- The kernel's row of features at a node, a component and a feature. -/
theorem rows_apply (x : FVec Ideal S50000x1x4x16 .f32) (n : Fin 50000) (l : Fin 4) (k : Fin 16) :
    rows x (ix2 n ⟨l.val * 16 + k.val, by omega⟩) = x (ix4 n 0 l k) := by
  pointwise [rows]

/-- The kernel's row of output weights at a component and a feature. -/
theorem outRow_apply (W : FVec Ideal S2x16x1 .f32) (l : Fin 4) (k : Fin 16) :
    outRow W (ix2 0 ⟨l.val * 16 + k.val, by omega⟩) = W (ix3 (degree l) k 0) := by
  pointwise [outRow, outWeight0, outWeight1]
  have hk := k.isLt
  match l with
  | 0 =>
    refine (dif_pos (show 0 * 16 + k.val < 16 by omega)).trans ?_
    exact congrArg (fun k => W (ix3 0 k 0)) (Fin.ext (show 0 * 16 + k.val = k.val by omega))
  | 1 =>
    refine (dif_neg (show ¬ 1 * 16 + k.val < 16 by omega)).trans ?_
    refine (dif_pos (show 1 * 16 + k.val - 16 < 16 by omega)).trans ?_
    exact congrArg (fun k => W (ix3 1 k 0)) (Fin.ext (show 1 * 16 + k.val - 16 = k.val by omega))
  | 2 =>
    refine (dif_neg (show ¬ 2 * 16 + k.val < 16 by omega)).trans ?_
    refine (dif_neg (show ¬ 2 * 16 + k.val - 16 < 16 by omega)).trans ?_
    refine (dif_pos (show 2 * 16 + k.val - 16 - 16 < 16 by omega)).trans ?_
    exact congrArg (fun k => W (ix3 1 k 0)) (Fin.ext (show 2 * 16 + k.val - 16 - 16 = k.val by omega))
  | 3 =>
    refine (dif_neg (show ¬ 3 * 16 + k.val < 16 by omega)).trans ?_
    refine (dif_neg (show ¬ 3 * 16 + k.val - 16 < 16 by omega)).trans ?_
    refine (dif_neg (show ¬ 3 * 16 + k.val - 16 - 16 < 16 by omega)).trans ?_
    exact congrArg (fun k => W (ix3 1 k 0)) (Fin.ext (show 3 * 16 + k.val - 16 - 16 - 16 = k.val by omega))

/-- The kernel's row of biases at a component. -/
theorem biasRow_apply (b : FVec Ideal S1 .f32) (l : Fin 4) : biasRow b (ix2 0 l) = mask (ix1 l) * b (ix1 0) := by
  pointwise [biasRow, mask]
  have h : ∀ l : Fin 4, KernelIdeal.lit2 (KernelIdeal.S4.rowMajor (ix1 l)) = lit1 (S4.rowMajor (ix1 l)) := by decide
  rw [h]

end Cert.Layer

end
-- ==== Proof.Region.lean ====
/- The last kernel's grid of fifty blocks: each block's rows, and the array they make up. -/
module

public import proofs.«01_k».proof.Proof.Gen.KernelIdeal.Frame
public import proofs.«01_k».proof.Proof.Gen.KernelIdeal.Points
public import Idealize.ShloMosaic.Lib.Pointwise

@[expose] public section

noncomputable section

namespace Cert.Layer

open Idealize.ShloMosaic Cert.KernelIdeal Cert.KernelIdeal.Gen Idealize.ShloMosaic.TcCoe Idealize.SL.Sem
open Idealize.ShloMosaic.StableHlo
open Idealize.ShloMosaic.Pipeline (Dat)

/-- One block of the last kernel at a row and a component: the row's features of that component against the weights, plus
    the bias. -/
theorem block_apply (x : FVec Ideal S1000x64 .f32) (w : FVec Ideal S1x64 .f32) (b : FVec Ideal S1x4 .f32)
    (r : Fin 1000) (l : Fin 4) :
    k0_pay1 x w b (ix2 r l)
      = (∑ k : Fin 16, x (ix2 r ⟨l.val * 16 + k.val, by omega⟩) * w (ix2 0 ⟨l.val * 16 + k.val, by omega⟩)) + b (ix2 0 l) := by
  pointwise [k0_pay1]

/-- What the last kernel computes of whole arrays, at a node and a component. -/
def contractAt (X : FVec Ideal S50000x64 .f32) (w : FVec Ideal S1x64 .f32) (b : FVec Ideal S1x4 .f32) (n : Fin 50000)
    (l : Fin 4) : EReal :=
  (∑ k : Fin 16, X (ix2 n ⟨l.val * 16 + k.val, by omega⟩) * w (ix2 0 ⟨l.val * 16 + k.val, by omega⟩)) + b (ix2 0 l)

/-- What the last kernel computes of whole arrays. -/
def contract (X : FVec Ideal S50000x64 .f32) (w : FVec Ideal S1x64 .f32) (b : FVec Ideal S1x4 .f32) :
    FVec Ideal S50000x4 .f32 := fun i => contractAt X w b (i 0) (i 1)

variable (m : (ℓ : Loc nD τ sig) → Buf (Elt Ideal) ℓ)

/-- The grid has fifty points. -/
theorem point_lt (t : Fin cfg0.N) : t.val < 50 := t.isLt

/-- The block that a point takes of the features, and the block that it writes: its own thousand rows. -/
theorem index_rows : ∀ t : Fin cfg0.N, (win0_0.index t 0 = t.val ∧ win0_0.index t 1 = 0)
    ∧ (win0_3.index t 0 = t.val ∧ win0_3.index t 1 = 0) :=
  (by decide +kernel : ∀ t : Fin grid0.N, (win0_0.index t 0 = t.val ∧ win0_0.index t 1 = 0)
    ∧ (win0_3.index t 0 = t.val ∧ win0_3.index t 1 = 0))

/-- The block that a point takes of the weights and of the bias: all of them. -/
theorem index_whole : ∀ t : Fin cfg0.N, (win0_1.index t 0 = 0 ∧ win0_1.index t 1 = 0)
    ∧ (win0_2.index t 0 = 0 ∧ win0_2.index t 1 = 0) :=
  (by decide +kernel : ∀ t : Fin grid0.N, (win0_1.index t 0 = 0 ∧ win0_1.index t 1 = 0)
    ∧ (win0_2.index t 0 = 0 ∧ win0_2.index t 1 = 0))

/-- The features of a block, row by row. -/
theorem features_block (c : Dev nD) (t : Fin cfg0.N) (r : Fin 1000) (j : Fin 64) :
    iblk m c 0 t (ix2 r j) = V m c main_v112 (ix2 ⟨t.val * 1000 + r.val, by have := point_lt t; omega⟩ j) := by
  have hi := (index_rows t).1
  refine congrArg (V m c main_v112) (funext fun a => Fin.ext ?_)
  match a with
  | ⟨0, _⟩ =>
    show win0_0.index t 0 * 1000 + 1 * r.val = t.val * 1000 + r.val
    rw [hi.1]; omega
  | ⟨1, _⟩ =>
    show win0_0.index t 1 * 64 + 1 * j.val = j.val
    rw [hi.2]; omega

/-- The weights of a block are all the weights. -/
theorem weights_block (c : Dev nD) (t : Fin cfg0.N) (j : Fin 64) :
    iblk m c 1 t (ix2 0 j) = V m c main_v131 (ix2 0 j) := by
  have hi := (index_whole t).1
  refine congrArg (V m c main_v131) (funext fun a => Fin.ext ?_)
  match a with
  | ⟨0, _⟩ =>
    show win0_1.index t 0 * 1 + 1 * 0 = 0
    rw [hi.1]
  | ⟨1, _⟩ =>
    show win0_1.index t 1 * 64 + 1 * j.val = j.val
    rw [hi.2]; omega

/-- The bias of a block is all the bias. -/
theorem bias_block (c : Dev nD) (t : Fin cfg0.N) (l : Fin 4) :
    iblk m c 2 t (ix2 0 l) = V m c main_v135 (ix2 0 l) := by
  have hi := (index_whole t).2
  refine congrArg (V m c main_v135) (funext fun a => Fin.ext ?_)
  match a with
  | ⟨0, _⟩ =>
    show win0_2.index t 0 * 1 + 1 * 0 = 0
    rw [hi.1]
  | ⟨1, _⟩ =>
    show win0_2.index t 1 * 4 + 1 * l.val = l.val
    rw [hi.2]; omega

/-- A block of an array that holds one row to a node, row by row. -/
theorem result_block (t : Fin cfg0.N) (G : FVec Ideal S50000x4 .f32) (r : Fin 1000) (l : Fin 4) :
    (win0_3.blk t).view.read (Elt Ideal) G (ix2 r l) = G (ix2 ⟨t.val * 1000 + r.val, by have := point_lt t; omega⟩ l) := by
  have hi := (index_rows t).2
  refine congrArg G (funext fun a => Fin.ext ?_)
  match a with
  | ⟨0, _⟩ =>
    show win0_3.index t 0 * 1000 + 1 * r.val = t.val * 1000 + r.val
    rw [hi.1]; omega
  | ⟨1, _⟩ =>
    show win0_3.index t 1 * 4 + 1 * l.val = l.val
    rw [hi.2]; omega

/-- The offsets of an access to a whole buffer. -/
theorem offsets_zero : (![0, 0] : Fin 2 → Nat) = fun _ => 0 := funext fun a => by fin_cases a <;> rfl

/-- What a point writes back is its block of `contract` of the three operands. -/
theorem flushed_eq (c : Dev nD) (t : Fin cfg0.N) :
    (dats m 0 c).flushed 3 t
      = (win0_3.blk t).view.read (Elt Ideal) (contract (V m c main_v112) (V m c main_v131) (V m c main_v135)) := by
  show (cfg0.win 3).cut (grid0.coords t) ((dats m 0 c).after 3 t) = _
  rw [after0_3]
  unfold out0_3
  rw [View.canon_unit_zero offsets_zero, View.ld_unit_zero offsets_zero, View.ld_unit_zero offsets_zero,
    View.ld_unit_zero offsets_zero]
  funext i
  obtain ⟨r, l, rfl⟩ : ∃ (r : Fin 1000) (l : Fin 4), i = ix2 r l := ⟨_, _, eq_ix2 i⟩
  refine Eq.trans ?_ (result_block t _ r l).symm
  refine (block_apply _ _ _ r l).trans ?_
  simp only [features_block, weights_block, bias_block]
  rfl

/-- The rows that a point's block covers. -/
theorem mem_block (t : Fin cfg0.N) (i : S50000x4.Idx) :
    i ∈ ((cfg0.win 3).blk t).view.set ↔ t.val * 1000 ≤ (i 0 : Nat) ∧ (i 0 : Nat) < t.val * 1000 + 1000 := by
  show i ∈ ((View.whole main_v136).slice (win0_3.rect t)).set ↔ _
  rw [View.set_slice_whole, Rect.mem_set_unit]
  have h1 : (i 1 : Nat) < 4 := (i 1).isLt
  have hi := (index_rows t).2
  constructor
  · intro h
    have : win0_3.index t 0 * 1000 ≤ (i 0 : Nat) ∧ (i 0 : Nat) < win0_3.index t 0 * 1000 + 1000 := h 0
    rwa [hi.1] at this
  · intro h a
    match a with
    | ⟨0, _⟩ =>
      show win0_3.index t 0 * 1000 ≤ (i 0 : Nat) ∧ (i 0 : Nat) < win0_3.index t 0 * 1000 + 1000
      rwa [hi.1]
    | ⟨1, _⟩ =>
      show win0_3.index t 1 * 4 ≤ (i 1 : Nat) ∧ (i 1 : Nat) < win0_3.index t 1 * 4 + 4
      rw [hi.2]; omega

/-- The blocks cover the array. -/
theorem covered (i : S50000x4.Idx) : ∃ t : Fin cfg0.N, (cfg0.win 3).flush t = true ∧ i ∈ ((cfg0.win 3).blk t).view.set := by
  have h0 : (i 0 : Nat) < 50000 := (i 0).isLt
  refine ⟨⟨(i 0 : Nat) / 1000, show (i 0 : Nat) / 1000 < 50 by omega⟩, flush0_3 _, ?_⟩
  rw [mem_block]
  dsimp only
  omega

/-- So the last kernel's array ends holding `contract` of its operands. -/
theorem region_out (c : Dev nD) : (dats m 0 c).arrAt 3 cfg0.N
    = contract (V m c main_v112) (V m c main_v131) (V m c main_v135) :=
  (dats m 0 c).arrAt_eq_of_cover 3 _ (fun t _ => flushed_eq m c t) covered

/-- And the result buffer, reshaped from that array, holds it with its two unit axes. -/
theorem result_out (c : Dev nD) : Pipeline.afterTail₀ cfgs (dats m) 0 (V0 m) [hostOps1] c main_v137
    = shapeCast S50000x1x4x1 (contract (V m c main_v112) (V m c main_v131) (V m c main_v135))
        shapeCasts_S50000x4_S50000x1x4x1 := by
  rw [← region_out m c]
  unfold Pipeline.afterTail₀
  simp only [hostOps1, List.flatten_cons, List.flatten_nil, List.append_nil]
  after_results
  exact congrArg (fun x => shapeCast S50000x1x4x1 x shapeCasts_S50000x4_S50000x1x4x1)
    (Pipeline.withArrays_arr spec0 (by decide) c (V0 m c) _ 3)

end Cert.Layer

end
-- ==== Proof.Operands.lean ====
/- What the last kernel's three operands hold when it starts: the stages composed. -/
module

public import proofs.«01_k».proof.Proof.Stages
public import proofs.«01_k».proof.Proof.Gen.KernelIdeal.Frame

@[expose] public section

noncomputable section

namespace Cert.Layer

open Idealize.ShloMosaic Cert.KernelIdeal Cert.KernelIdeal.Gen Idealize.ShloMosaic.TcCoe Idealize.SL.Sem Idealize.ShloMosaic.StableHlo

/-- The node features after the kernel's two rounds, as a function of the arguments. -/
def kerFeatures (x : FVec Ideal S50000x1x4x128 .f32) (coords : FVec Ideal S50000x3 .f32) (dst src : IVec S800000 32)
    (Win : FVec Ideal S2x128x16 .f32) (bin : FVec Ideal S16 .f32) (Wb : FVec Ideal S2x16x16 .f32) (bb : FVec Ideal S2x16 .f32) :
    FVec Ideal S50000x1x4x16 .f32 :=
  let r := edge coords dst src
  let d := dist r
  let y := sh r d
  let g := rbf (offCentre d centres)
  kerRound (kerRound (project x Win bin) (kerFactor y g (weight0 Wb) (bias0 bb)) dst src)
    (kerFactor y g (weight1 Wb) (bias1 bb)) dst src

variable (m : (ℓ : Loc nD τ sig) → Buf (Elt Ideal) ℓ)

/-- The third operand: the bias row. -/
theorem operand2 (c : Dev nD) : V m c main_v135 = biasRow (m ((c.tc : Thread nD τ).loc main_arg9)) := by
  show after _ _ _ = _
  simp only [hostOps0, hostOps0_1, hostOps0_2, List.flatten_cons, List.flatten_nil, List.append_nil, List.cons_append,
    List.nil_append, TRef.binary, TRef.nullary, TRef.reshape, TRef.unary, TRef.toBuf, TRef.ofBuf, cast_eq]
  after_results <;> rfl

/-- The second operand: the output weights in a row. -/
theorem operand1 (c : Dev nD) : V m c main_v131 = outRow (m ((c.tc : Thread nD τ).loc main_arg8)) := by
  show after _ _ _ = _
  simp only [hostOps0, hostOps0_1, hostOps0_2, List.flatten_cons, List.flatten_nil, List.append_nil, List.cons_append,
    List.nil_append, TRef.binary, TRef.nullary, TRef.reshape, TRef.unary, TRef.toBuf, TRef.ofBuf, cast_eq]
  after_results <;> rfl

/-- The first operand: the features, one node to a row. -/
theorem operand0 (c : Dev nD) : V m c main_v112
    = rows (kerFeatures (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))) := by
  show after _ _ _ = _
  simp only [hostOps0, hostOps0_1, hostOps0_2, List.flatten_cons, List.flatten_nil, List.append_nil, List.cons_append,
    List.nil_append, TRef.binary, TRef.nullary, TRef.reshape, TRef.unary, TRef.toBuf, TRef.ofBuf, cast_eq]
  after_results <;> rfl

end Cert.Layer

end
-- ==== Proof.Reference.lean ====
/- What the reference's result buffer holds: the stages composed. -/
module

public import proofs.«01_k».proof.Proof.Stages
public import proofs.«01_k».proof.Proof.Gen.ReferenceIdeal.Run

@[expose] public section

noncomputable section

namespace Cert.Layer

open Idealize.ShloMosaic Cert.ReferenceIdeal Cert.ReferenceIdeal.Gen Idealize.ShloMosaic.TcCoe Idealize.SL.Sem

/-- The reference's result as a function of the ten arguments. -/
def refResult (x : FVec Ideal S50000x1x4x128 .f32) (coords : FVec Ideal S50000x3 .f32) (dst src : IVec S800000 32)
    (Win : FVec Ideal S2x128x16 .f32) (bin : FVec Ideal S16 .f32) (Wb : FVec Ideal S2x16x16 .f32) (bb : FVec Ideal S2x16 .f32)
    (Wout : FVec Ideal S2x16x1 .f32) (bout : FVec Ideal S1 .f32) : FVec Ideal S50000x1x4x1 .f32 :=
  let r := edge coords dst src
  let d := dist r
  let B := basis (sh r d) (rbf (offCentre d centres))
  refOut
    (refRound (refRound (project x Win bin) (refFactor B (weight0 Wb) (bias0 bb)) dst src)
      (refFactor B (weight1 Wb) (bias1 bb)) dst src)
    Wout bout

variable (m : (ℓ : Loc nD τ sig) → Buf (Elt Ideal) ℓ)

/-- The reference's result buffer holds `refResult` of the arguments. -/
theorem ref_out (c : Dev nD) : Cert.ReferenceIdeal.Value.res_out0 m c
    = refResult (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9)) := by
  rfl

end Cert.Layer

end
-- ==== Proof.Equation.lean ====
/- The equation: the kernel's program and the reference leave the same result when the projection's weights are finite. -/
module

public import proofs.«01_k».proof.Proof.Angular
public import proofs.«01_k».proof.Proof.Output
public import proofs.«01_k».proof.Proof.Region
public import proofs.«01_k».proof.Proof.Operands
public import proofs.«01_k».proof.Proof.Reference

@[expose] public section

noncomputable section

namespace Cert.Layer

open Idealize.ShloMosaic Cert.ReferenceIdeal Cert.ReferenceIdeal.Gen

/-- Real factors and finite weights: the kernel's edge factor is the reference's. -/
theorem factor_eq (y : FVec Ideal S800000x4 .f32) (g : FVec Ideal S800000x16 .f32) (W : FVec Ideal S16x16 .f32)
    (b : FVec Ideal S16 .f32) (hy : ∀ e l, IsReal (y (ix2 e l))) (hg : ∀ e k, IsReal (g (ix2 e k)))
    (hW : ∀ k f, IsReal (W (ix2 k f))) (e : Fin 800000) (l : Fin 4) (f : Fin 16) :
    kerFactor y g W b (ix3 e l f) = refFactor (basis y g) W b (ix4 e 0 l f) := by
  rw [kerFactor_apply, refFactor_apply, mul_sum_real (hy e l) (hg e) fun k => hW k f]

/-- The first round's weights at two features. -/
theorem weight0_apply (W : FVec Ideal S2x16x16 .f32) (k f : Fin 16) : weight0 W (ix2 k f) = W (ix3 0 k f) := by
  pointwise [weight0]

/-- The second round's weights at two features. -/
theorem weight1_apply (W : FVec Ideal S2x16x16 .f32) (k f : Fin 16) : weight1 W (ix2 k f) = W (ix3 1 k f) := by
  pointwise [weight1]

/-- The kernel's result as a function of the ten arguments. -/
def kerResult (x : FVec Ideal S50000x1x4x128 .f32) (coords : FVec Ideal S50000x3 .f32) (dst src : IVec S800000 32)
    (Win : FVec Ideal S2x128x16 .f32) (bin : FVec Ideal S16 .f32) (Wb : FVec Ideal S2x16x16 .f32) (bb : FVec Ideal S2x16 .f32)
    (Wout : FVec Ideal S2x16x1 .f32) (bout : FVec Ideal S1 .f32) : FVec Ideal S50000x1x4x1 .f32 :=
  shapeCast S50000x1x4x1 (contract (rows (kerFeatures x coords dst src Win bin Wb bb)) (outRow Wout) (biasRow bout))
    Cert.KernelIdeal.Gen.shapeCasts_S50000x4_S50000x1x4x1

/-- The kernel's last projection of any features is the reference's. -/
theorem output_eq (x : FVec Ideal S50000x1x4x16 .f32) (W : FVec Ideal S2x16x1 .f32) (b : FVec Ideal S1 .f32) :
    shapeCast S50000x1x4x1 (contract (rows x) (outRow W) (biasRow b)) Cert.KernelIdeal.Gen.shapeCasts_S50000x4_S50000x1x4x1
      = refOut x W b := by
  funext i
  obtain ⟨n, o, l, o', rfl⟩ : ∃ n o l o', i = ix4 n o l o' := ⟨_, _, _, _, eq_ix4 i⟩
  obtain rfl : o = 0 := Subsingleton.elim _ _
  obtain rfl : o' = 0 := Subsingleton.elim _ _
  rw [refOut_apply]
  have h : ∀ G : FVec Ideal Cert.KernelIdeal.S50000x4 .f32,
      shapeCast S50000x1x4x1 G Cert.KernelIdeal.Gen.shapeCasts_S50000x4_S50000x1x4x1 (ix4 n 0 l 0) = G (ix2 n l) := by
    intro G; pointwise
  rw [h]
  show contractAt _ _ _ n l = _
  unfold contractAt
  simp only [rows_apply, outRow_apply, biasRow_apply, mul_comm]

/-- The two results agree when every weight of the projection is real. -/
theorem result_eq (x : FVec Ideal S50000x1x4x128 .f32) (coords : FVec Ideal S50000x3 .f32) (dst src : IVec S800000 32)
    (Win : FVec Ideal S2x128x16 .f32) (bin : FVec Ideal S16 .f32) (Wb : FVec Ideal S2x16x16 .f32) (bb : FVec Ideal S2x16 .f32)
    (Wout : FVec Ideal S2x16x1 .f32) (bout : FVec Ideal S1 .f32) (hWb : ∀ i, IsReal (Wb i)) :
    kerResult x coords dst src Win bin Wb bb Wout bout = refResult x coords dst src Win bin Wb bb Wout bout := by
  have hy := sh_real (edge coords dst src)
  have hg := rbf_real (offCentre (dist (edge coords dst src)) centres)
  have h0 := factor_eq _ _ (weight0 Wb) (bias0 bb) hy hg fun k f => by rw [weight0_apply]; exact hWb _
  have h1 := factor_eq _ _ (weight1 Wb) (bias1 bb) hy hg fun k f => by rw [weight1_apply]; exact hWb _
  refine (output_eq _ _ _).trans (congrArg (fun z => refOut z Wout bout) ?_)
  refine (round_eq _ _ _ dst src h1).trans ?_
  exact congrArg (fun z => refRound z _ dst src) (round_eq _ _ _ dst src h0)

end Cert.Layer

end
-- ==== Proof.Precondition.lean ====
/- The precondition read at an element: where the absolute value of every projection weight is below infinity, every weight is a
   real number. -/
module

public import proofs.«01_k».proof.Defs
public import proofs.«01_k».proof.Proof.Reals

@[expose] public section

noncomputable section

namespace Cert.Layer

open Idealize.ShloMosaic

/-- The precondition's one shape fact: a scalar spreads over the weights' shape. -/
instance preFacts : Cert.Pre_wb_finite.Facts where
  bcast_S_S2x16x16 := by decide

/-- The pattern that the weights are compared with is infinity. -/
theorem ofBits_infinity : Ideal.ofBits .f32 0x7F800000#32 = ⊤ := by
  simp [Ideal.ofBits, Ideal.ieee]

/-- A number whose absolute value is below infinity is real. -/
theorem isReal_of_abs {x : EReal} (h : max x (-x) < ⊤) : IsReal x := by
  refine isReal_of_ne ?_ ?_ <;> rintro rfl <;> simp at h

/-- Where the precondition holds, every weight is real. -/
theorem weights_real {x coords dst src Win bin bb Wout bout} {Wb : FVec Ideal Cert.Pre_wb_finite.S2x16x16 .f32}
    (h : Cert.Pre_wb_finite.fn (F := Ideal) x coords dst src Win bin Wb bb Wout bout = fun _ => 1#1) (i) : IsReal (Wb i) := by
  have hi : Ideal.cmp .olt (max (Wb i) (-(Wb i))) (Ideal.ofBits .f32 0x7F800000#32) = 1#1 := congrFun h i
  rw [ofBits_infinity] at hi
  refine isReal_of_abs ?_
  by_contra hlt
  have : Ideal.cmp .olt (max (Wb i) (-(Wb i))) ⊤ = 0#1 := by
    unfold Ideal.cmp
    simp only [decide_eq_false hlt]
    rfl
  rw [this] at hi
  exact absurd hi (by decide)

end Cert.Layer

end
-- ==== Proof.lean ====
/- The certificate: the programs' frames, the idealization's shape, and the value claim, each from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Stages
public import proofs.«01_k».proof.Proof.Reals
public import proofs.«01_k».proof.Proof.Factors
public import proofs.«01_k».proof.Proof.Angular
public import proofs.«01_k».proof.Proof.Rounds
public import proofs.«01_k».proof.Proof.Output
public import proofs.«01_k».proof.Proof.Region
public import proofs.«01_k».proof.Proof.Operands
public import proofs.«01_k».proof.Proof.Reference
public import proofs.«01_k».proof.Proof.Equation
public import proofs.«01_k».proof.Proof.Precondition
public import Idealize.ShloMosaic.Adequacy
public import Idealize.ShloMosaic.Init

@[expose] public section

noncomputable section

namespace Cert.Proof

open Idealize.ShloMosaic Idealize.SL.Sem Cert.Layer

/-- The kernel's program runs to the end, leaves its arguments alone, and leaves every counter at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- And so it does where the weights are finite. -/
theorem frame_ideal_pre : Cert.quiescent_KernelIdeal_pre_wb_finite := fun m ρ _ => Cert.KernelIdeal.Gen.frame m ρ

/-- The reference runs to the end and leaves its arguments alone; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- And so it does where the weights are finite. -/
theorem frame_reference_pre : Cert.quiescent_ReferenceIdeal_pre_wb_finite := fun m ρ _ => frame_reference m ρ trivial

/-- The value both programs leave, of the kernel's arguments. -/
abbrev value (m : (ℓ : Loc Cert.KernelIdeal.nD Cert.KernelIdeal.τ Cert.KernelIdeal.sig) → Buf (Elt Ideal) ℓ)
    (c : Dev Cert.KernelIdeal.nD) : FVec Ideal Cert.KernelIdeal.S50000x1x4x1 .f32 :=
  kerResult
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))

/-- The idealized program's result buffer ends at `value`. -/
theorem kernel_value (m : (ℓ : Loc Cert.KernelIdeal.nD Cert.KernelIdeal.τ Cert.KernelIdeal.sig) → Buf (Elt Ideal) ℓ)
    (c : Dev Cert.KernelIdeal.nD) :
    Pipeline.afterTail₀ Cert.KernelIdeal.cfgs (Cert.KernelIdeal.Gen.dats m) 0 (Cert.KernelIdeal.Gen.V0 m)
        [Cert.KernelIdeal.Gen.hostOps1] c Cert.KernelIdeal.main_v137 = value m c := by
  rw [result_out, operand0, operand1, operand2]
  rfl

/-- At the extended reals, where the weights of the basis projection are finite, the kernel's program and the reference leave
    the same result. -/
theorem algebraic : Cert.algebraic_KernelIdeal_ReferenceIdeal_pre_wb_finite := by
  intro m ρ m' ρ' hpre hagree
  refine ⟨value m, ?_, ?_⟩
  · refine (θ_run Cert.KernelIdeal.defs _ _).mono (fun r h c => ⟨?_, ?_⟩)
      (θ_run_and (Cert.KernelIdeal.Gen.run_main m ρ) (Cert.KernelIdeal.Gen.unchanged m ρ))
    · exact ((h.1 c).2 Cert.KernelIdeal.main_v137 (Pipeline.mem_restRefs_of _ (by decide) (by decide))).trans (kernel_value m c)
    · exact h.2 c
  · refine (θ_run Cert.ReferenceIdeal.defs _ _).mono (fun r h c => ⟨(h c).1.trans ?_, (h c).2⟩)
      (Cert.ReferenceIdeal.Value.run m' ρ')
    obtain ⟨a0, a1, a2, a3, a4, a5, a6, a7, a8, a9⟩ := hagree c
    refine (ref_out m' c).trans ?_
    rw [a0, a1, a2, a3, a4, a5, a6, a7, a8, a9]
    exact (result_eq _ _ _ _ _ _ _ _ _ _ (weights_real (hpre c))).symm

/-- Every claim. -/
theorem claim : Cert.Claim :=
  ⟨Cert.Kernel.Gen.facts, Cert.KernelIdeal.Gen.facts, Cert.ReferenceIdeal.Gen.facts, preFacts,
    frame_kernel, frame_ideal, frame_ideal_pre, frame_reference, frame_reference_pre, trivial, algebraic⟩

end Cert.Proof

end
